-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scene_inputs [hPre_scene_inputs : Cert.Pre_scene_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_scene_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_scene_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_scene_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_scene_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_scene_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_scene_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_scene_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_scene_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_scene_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.1 = (fun _ => 1#1)
    ∧ (Cert.Pre_scene_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scene_inputs [hPre_scene_inputs : Cert.Pre_scene_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scene_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_scene_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_scene_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_scene_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_scene_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_scene_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_scene_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_scene_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_scene_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.1 = (fun _ => 1#1)
    ∧ (Cert.Pre_scene_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_scene_inputs [hKernelIdeal : Cert.KernelIdeal.Facts] [hPre_scene_inputs : Cert.Pre_scene_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scene_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_scene_inputs [hReferenceIdeal : Cert.ReferenceIdeal.Facts] [hPre_scene_inputs : Cert.Pre_scene_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scene_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scene_inputs [hKernelIdeal : Cert.KernelIdeal.Facts] [hReferenceIdeal : Cert.ReferenceIdeal.Facts] [hPre_scene_inputs : Cert.Pre_scene_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scene_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_scene_inputs : Cert.Pre_scene_inputs.Facts),
    quiescent_Kernel (hKernel := hKernel)
    ∧ quiescent_KernelIdeal (hKernelIdeal := hKernelIdeal)
    ∧ quiescent_KernelIdeal_pre_scene_inputs (hKernelIdeal := hKernelIdeal) (hPre_scene_inputs := hPre_scene_inputs)
    ∧ quiescent_ReferenceIdeal (hReferenceIdeal := hReferenceIdeal)
    ∧ quiescent_ReferenceIdeal_pre_scene_inputs (hReferenceIdeal := hReferenceIdeal) (hPre_scene_inputs := hPre_scene_inputs)
    ∧ preserves_Kernel_KernelIdeal
    ∧ algebraic_KernelIdeal_ReferenceIdeal_pre_scene_inputs (hKernelIdeal := hKernelIdeal) (hReferenceIdeal := hReferenceIdeal) (hPre_scene_inputs := hPre_scene_inputs)
-- ==== Pre_scene_inputs.lean ====
abbrev S2560x128 : Shape := ⟨2, ![2560, 128]⟩
abbrev S64x40 : Shape := ⟨2, ![64, 40]⟩
abbrev S128x768 : Shape := ⟨2, ![128, 768]⟩
abbrev S768 : Shape := ⟨1, ![768]⟩
abbrev S768x128 : Shape := ⟨2, ![768, 128]⟩
abbrev S128 : Shape := ⟨1, ![128]⟩
abbrev S128x128 : Shape := ⟨2, ![128, 128]⟩
abbrev S_ : Shape := ⟨0, ![]⟩

class Facts : Prop where
  bcast_S_S64x40 : S_.BroadcastsInDim S64x40 (![] : Fin 0 → Fin S64x40.rank)
  bcast_S_S2560x128 : S_.BroadcastsInDim S2560x128 (![] : Fin 0 → Fin S2560x128.rank)
  bcast_S_S128x768 : S_.BroadcastsInDim S128x768 (![] : Fin 0 → Fin S128x768.rank)
  bcast_S_S768 : S_.BroadcastsInDim S768 (![] : Fin 0 → Fin S768.rank)
  bcast_S_S128 : S_.BroadcastsInDim S128 (![] : Fin 0 → Fin S128.rank)

variable [Facts]

def fn_part1 {F : FTy → Type} [FloatOps F] (main_arg7 : FVec F S768 .f32) (main_arg9 : FVec F S128 .f32) (main_arg12 : FVec F S128 .f32) (main_arg13 : FVec F S128 .f32) (main_v5 : IVec S64x40 1) (main_v8 : IVec S2560x128 1) (main_v11 : IVec S128x768 1) (main_v13 : IVec S768 1) (main_v16 : IVec S128x768 1) (main_v17 : FVec F S768 .f32) (main_cst_3 : FVec F S_ .f32) : IVec S64x40 1 × IVec S2560x128 1 × IVec S128x768 1 × IVec S768 1 × IVec S128x768 1 × IVec S768 1 × IVec S768 1 × IVec S128 1 × IVec S128 1 × IVec S128 1 :=
  let main_v18 : FVec F S768 .f32 := broadcastInDim S768 ![] bcast_S_S768 main_cst_3
  let main_v19 : IVec S768 1 := cmpf .olt main_v17 main_v18
  let main_cst_4 : FVec F S_ .f32 := constant S_ .f32 0x00000000#32
  let main_v20 : FVec F S768 .f32 := broadcastInDim S768 ![] bcast_S_S768 main_cst_4
  let main_v21 : IVec S768 1 := cmpf .oeq main_arg7 main_v20
  let main_cst_5 : FVec F S_ .f32 := constant S_ .f32 0x00000000#32
  let main_v22 : FVec F S128 .f32 := broadcastInDim S128 ![] bcast_S_S128 main_cst_5
  let main_v23 : IVec S128 1 := cmpf .oeq main_arg9 main_v22
  let main_cst_6 : FVec F S_ .f32 := constant S_ .f32 0x3F800000#32
  let main_v24 : FVec F S128 .f32 := broadcastInDim S128 ![] bcast_S_S128 main_cst_6
  let main_v25 : IVec S128 1 := cmpf .oeq main_arg12 main_v24
  let main_cst_7 : FVec F S_ .f32 := constant S_ .f32 0x00000000#32
  let main_v26 : FVec F S128 .f32 := broadcastInDim S128 ![] bcast_S_S128 main_cst_7
  let main_v27 : IVec S128 1 := cmpf .oeq main_arg13 main_v26
  (main_v5, main_v8, main_v11, main_v13, main_v16, main_v19, main_v21, main_v23, main_v25, main_v27)

def fn {F : FTy → Type} [FloatOps F] (main_arg0 : FVec F S2560x128 .f32) (main_arg1 : IVec S64x40 32) (main_arg2 : FVec F S128x768 .f32) (main_arg3 : FVec F S768 .f32) (main_arg4 : FVec F S128x768 .f32) (main_arg5 : FVec F S768 .f32) (main_arg6 : FVec F S128x768 .f32) (main_arg7 : FVec F S768 .f32) (main_arg8 : FVec F S768x128 .f32) (main_arg9 : FVec F S128 .f32) (main_arg10 : FVec F S128x128 .f32) (main_arg11 : FVec F S128x128 .f32) (main_arg12 : FVec F S128 .f32) (main_arg13 : FVec F S128 .f32) (main_arg14 : FVec F S128x128 .f32) : IVec S64x40 1 × IVec S2560x128 1 × IVec S128x768 1 × IVec S768 1 × IVec S128x768 1 × IVec S768 1 × IVec S768 1 × IVec S128 1 × IVec S128 1 × IVec S128 1 :=
  let main_v0 : IVec S64x40 32 := iotaInDim S64x40 32 0
  let main_v1 : IVec S64x40 32 := iotaInDim S64x40 32 1
  let main_c : IVec S_ 32 := constantI S_ 32 40#32
  let main_v2 : IVec S64x40 32 := broadcastInDim S64x40 ![] bcast_S_S64x40 main_c
  let main_v3 : IVec S64x40 32 := muli main_v2 main_v0
  let main_v4 : IVec S64x40 32 := addi main_v3 main_v1
  let main_v5 : IVec S64x40 1 := cmpi .eq main_arg1 main_v4
  let main_v6 : FVec F S2560x128 .f32 := Host.absf main_arg0
  let main_cst : FVec F S_ .f32 := constant S_ .f32 0x7F800000#32
  let main_v7 : FVec F S2560x128 .f32 := broadcastInDim S2560x128 ![] bcast_S_S2560x128 main_cst
  let main_v8 : IVec S2560x128 1 := cmpf .olt main_v6 main_v7
  let main_v9 : FVec F S128x768 .f32 := Host.absf main_arg2
  let main_cst_0 : FVec F S_ .f32 := constant S_ .f32 0x7F800000#32
  let main_v10 : FVec F S128x768 .f32 := broadcastInDim S128x768 ![] bcast_S_S128x768 main_cst_0
  let main_v11 : IVec S128x768 1 := cmpf .olt main_v9 main_v10
  let main_cst_1 : FVec F S_ .f32 := constant S_ .f32 0x00000000#32
  let main_v12 : FVec F S768 .f32 := broadcastInDim S768 ![] bcast_S_S768 main_cst_1
  let main_v13 : IVec S768 1 := cmpf .oeq main_arg3 main_v12
  let main_v14 : FVec F S128x768 .f32 := Host.absf main_arg4
  let main_cst_2 : FVec F S_ .f32 := constant S_ .f32 0x7F800000#32
  let main_v15 : FVec F S128x768 .f32 := broadcastInDim S128x768 ![] bcast_S_S128x768 main_cst_2
  let main_v16 : IVec S128x768 1 := cmpf .olt main_v14 main_v15
  let main_v17 : FVec F S768 .f32 := Host.absf main_arg5
  let main_cst_3 : FVec F S_ .f32 := constant S_ .f32 0x7F800000#32
  fn_part1 (F := F) main_arg7 main_arg9 main_arg12 main_arg13 main_v5 main_v8 main_v11 main_v13 main_v16 main_v17 main_cst_3
-- ==== Kernel.lean ====
abbrev S2560x128 : Shape := ⟨2, ![2560, 128]⟩
abbrev S64x40 : Shape := ⟨2, ![64, 40]⟩
abbrev S128x768 : Shape := ⟨2, ![128, 768]⟩
abbrev S768 : Shape := ⟨1, ![768]⟩
abbrev S768x128 : Shape := ⟨2, ![768, 128]⟩
abbrev S128 : Shape := ⟨1, ![128]⟩
abbrev S128x128 : Shape := ⟨2, ![128, 128]⟩
abbrev S2560x768 : Shape := ⟨2, ![2560, 768]⟩
abbrev S80x80 : Shape := ⟨2, ![80, 80]⟩
abbrev S32x80x128 : Shape := ⟨3, ![32, 80, 128]⟩
abbrev S32x80x80 : Shape := ⟨3, ![32, 80, 80]⟩
abbrev S1x80x80 : Shape := ⟨3, ![1, 80, 80]⟩
abbrev S32x80 : Shape := ⟨2, ![32, 80]⟩
abbrev S32x80x1 : Shape := ⟨3, ![32, 80, 1]⟩
abbrev S2560 : Shape := ⟨1, ![2560]⟩
abbrev S2560x1 : Shape := ⟨2, ![2560, 1]⟩

abbrev nBuf : Space → Nat
  | .hbm => 16
  | .vmem => 9
  | .smem => 0
  | _ => 0

abbrev bufTy : (tb : Table) → Fin (tcTables nBuf tb) → BufTy
  | .hbm, ⟨0, _⟩ => ⟨S2560x128, .f32⟩
  | .hbm, ⟨1, _⟩ => ⟨S64x40, .i32⟩
  | .hbm, ⟨2, _⟩ => ⟨S128x768, .f32⟩
  | .hbm, ⟨3, _⟩ => ⟨S768, .f32⟩
  | .hbm, ⟨4, _⟩ => ⟨S128x768, .f32⟩
  | .hbm, ⟨5, _⟩ => ⟨S768, .f32⟩
  | .hbm, ⟨6, _⟩ => ⟨S128x768, .f32⟩
  | .hbm, ⟨7, _⟩ => ⟨S768, .f32⟩
  | .hbm, ⟨8, _⟩ => ⟨S768x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S2560x128, .f32⟩
  | .local _ .vmem, ⟨0, _⟩ => ⟨S2560x128, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S768x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S2560x128, .f32⟩
  | _, _ => ⟨S2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2560x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2560x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2560x128 : Shape := ⟨2, ![2560, 128]⟩
abbrev S64x40 : Shape := ⟨2, ![64, 40]⟩
abbrev S128x768 : Shape := ⟨2, ![128, 768]⟩
abbrev S768 : Shape := ⟨1, ![768]⟩
abbrev S768x128 : Shape := ⟨2, ![768, 128]⟩
abbrev S128 : Shape := ⟨1, ![128]⟩
abbrev S128x128 : Shape := ⟨2, ![128, 128]⟩
abbrev S64x40x40 : Shape := ⟨3, ![64, 40, 40]⟩
abbrev S64x1600 : Shape := ⟨2, ![64, 1600]⟩
abbrev S102400 : Shape := ⟨1, ![102400]⟩
abbrev S1x64x1x40 : Shape := ⟨4, ![1, 64, 1, 40]⟩
abbrev S1x64x40x40 : Shape := ⟨4, ![1, 64, 40, 40]⟩
abbrev S_ : Shape := ⟨0, ![]⟩
abbrev S102400x1 : Shape := ⟨2, ![102400, 1]⟩
abbrev S1 : Shape := ⟨1, ![1]⟩
abbrev S1x1 : Shape := ⟨2, ![1, 1]⟩
abbrev S102400x128 : Shape := ⟨2, ![102400, 128]⟩
abbrev S102400x768 : Shape := ⟨2, ![102400, 768]⟩
abbrev S1x768 : Shape := ⟨2, ![1, 768]⟩
abbrev S102400x6x128 : Shape := ⟨3, ![102400, 6, 128]⟩
abbrev S102400x6 : Shape := ⟨2, ![102400, 6]⟩
abbrev S2560x6 : Shape := ⟨2, ![2560, 6]⟩
abbrev S102400x6x1 : Shape := ⟨3, ![102400, 6, 1]⟩
abbrev S2560x6x128 : Shape := ⟨3, ![2560, 6, 128]⟩
abbrev S2560x768 : Shape := ⟨2, ![2560, 768]⟩
abbrev S1x128 : Shape := ⟨2, ![1, 128]⟩
abbrev S2560 : Shape := ⟨1, ![2560]⟩
abbrev S2560x1 : Shape := ⟨2, ![2560, 1]⟩

abbrev nBuf : Space → Nat
  | .hbm => 232
  | .vmem => 0
  | .smem => 0
  | _ => 0

abbrev hbmTy0_0 (i : Nat) : BufTy := match i % 128 with
  | 0 => ⟨S2560x128, .f32⟩
  | 1 => ⟨S64x40, .i32⟩
  | 2 => ⟨S128x768, .f32⟩
  | 3 => ⟨S768, .f32⟩
  | 4 => ⟨S128x768, .f32⟩
  | 5 => ⟨S768, .f32⟩
  | 6 => ⟨S128x768, .f32⟩
  | 7 => ⟨S768, .f32⟩
  | 8 => ⟨S768x128, .f32⟩
  | 9 => ⟨S128, .f32⟩
  | 10 => ⟨S128x128, .f32⟩
  | 11 => ⟨S128x128, .f32⟩
  | 12 => ⟨S128, .f32⟩
  | 13 => ⟨S128, .f32⟩
  | 14 => ⟨S128x128, .f32⟩
  | 15 => ⟨S64x40x40, .i32⟩
  | 16 => ⟨S64x1600, .i32⟩
  | 17 => ⟨S102400, .i32⟩
  | 18 => ⟨S1x64x1x40, .i32⟩
  | 19 => ⟨S1x64x40x40, .i32⟩
  | 20 => ⟨S64x1600, .i32⟩
  | 21 => ⟨S102400, .i32⟩
  | 22 => ⟨S_, .i32⟩
  | 23 => ⟨S102400, .i32⟩
  | 24 => ⟨S102400, .i1⟩
  | 25 => ⟨S_, .i32⟩
  | 26 => ⟨S102400, .i32⟩
  | 27 => ⟨S102400, .i32⟩
  | 28 => ⟨S102400, .i32⟩
  | 29 => ⟨S102400x1, .i32⟩
  | 30 => ⟨S1, .i32⟩
  | 31 => ⟨S_, .i32⟩
  | 32 => ⟨S102400x1, .i32⟩
  | 33 => ⟨S102400x1, .i1⟩
  | 34 => ⟨S1x1, .i32⟩
  | 35 => ⟨S102400x1, .i32⟩
  | 36 => ⟨S102400x1, .i1⟩
  | 37 => ⟨S102400x1, .i1⟩
  | 38 => ⟨S_, .i1⟩
  | 39 => ⟨S102400, .i1⟩
  | 40 => ⟨S102400x128, .f32⟩
  | 41 => ⟨S102400x128, .i1⟩
  | 42 => ⟨S_, .f32⟩
  | 43 => ⟨S102400x128, .f32⟩
  | 44 => ⟨S102400x128, .f32⟩
  | 45 => ⟨S102400x768, .f32⟩
  | 46 => ⟨S1x768, .f32⟩
  | 47 => ⟨S102400x768, .f32⟩
  | 48 => ⟨S102400x768, .f32⟩
  | 49 => ⟨S102400x6x128, .f32⟩
  | 50 => ⟨S_, .i32⟩
  | 51 => ⟨S102400, .i32⟩
  | 52 => ⟨S102400, .i1⟩
  | 53 => ⟨S_, .i32⟩
  | 54 => ⟨S102400, .i32⟩
  | 55 => ⟨S102400, .i32⟩
  | 56 => ⟨S102400, .i32⟩
  | 57 => ⟨S102400x1, .i32⟩
  | 58 => ⟨S1, .i32⟩
  | 59 => ⟨S_, .i32⟩
  | 60 => ⟨S102400x1, .i32⟩
  | 61 => ⟨S102400x1, .i1⟩
  | 62 => ⟨S1x1, .i32⟩
  | 63 => ⟨S102400x1, .i32⟩
  | 64 => ⟨S102400x1, .i1⟩
  | 65 => ⟨S102400x1, .i1⟩
  | 66 => ⟨S_, .i1⟩
  | 67 => ⟨S102400, .i1⟩
  | 68 => ⟨S102400x128, .f32⟩
  | 69 => ⟨S102400x128, .i1⟩
  | 70 => ⟨S_, .f32⟩
  | 71 => ⟨S102400x128, .f32⟩
  | 72 => ⟨S102400x128, .f32⟩
  | 73 => ⟨S102400x768, .f32⟩
  | 74 => ⟨S1x768, .f32⟩
  | 75 => ⟨S102400x768, .f32⟩
  | 76 => ⟨S102400x768, .f32⟩
  | 77 => ⟨S102400x6x128, .f32⟩
  | 78 => ⟨S_, .i32⟩
  | 79 => ⟨S102400, .i32⟩
  | 80 => ⟨S102400, .i1⟩
  | 81 => ⟨S_, .i32⟩
  | 82 => ⟨S102400, .i32⟩
  | 83 => ⟨S102400, .i32⟩
  | 84 => ⟨S102400, .i32⟩
  | 85 => ⟨S102400x1, .i32⟩
  | 86 => ⟨S1, .i32⟩
  | 87 => ⟨S_, .i32⟩
  | 88 => ⟨S102400x1, .i32⟩
  | 89 => ⟨S102400x1, .i1⟩
  | 90 => ⟨S1x1, .i32⟩
  | 91 => ⟨S102400x1, .i32⟩
  | 92 => ⟨S102400x1, .i1⟩
  | 93 => ⟨S102400x1, .i1⟩
  | 94 => ⟨S_, .i1⟩
  | 95 => ⟨S102400, .i1⟩
  | 96 => ⟨S102400x128, .f32⟩
  | 97 => ⟨S102400x128, .i1⟩
  | 98 => ⟨S_, .f32⟩
  | 99 => ⟨S102400x128, .f32⟩
  | 100 => ⟨S102400x128, .f32⟩
  | 101 => ⟨S102400x768, .f32⟩
  | 102 => ⟨S1x768, .f32⟩
  | 103 => ⟨S102400x768, .f32⟩
  | 104 => ⟨S102400x768, .f32⟩
  | 105 => ⟨S_, .f32⟩
  | 106 => ⟨S102400x768, .f32⟩
  | 107 => ⟨S102400x768, .f32⟩
  | 108 => ⟨S102400x6x128, .f32⟩
  | 109 => ⟨S102400x6x128, .f32⟩
  | 110 => ⟨S_, .f32⟩
  | 111 => ⟨S102400x6, .f32⟩
  | 112 => ⟨S_, .f32⟩
  | 113 => ⟨S102400x6, .f32⟩
  | 114 => ⟨S102400x6, .f32⟩
  | 115 => ⟨S_, .f32⟩
  | 116 => ⟨S_, .f32⟩
  | 117 => ⟨S102400x6, .f32⟩
  | 118 => ⟨S102400x6, .f32⟩
  | 119 => ⟨S102400x6, .f32⟩
  | 120 => ⟨S_, .f32⟩
  | 121 => ⟨S2560x6, .f32⟩
  | 122 => ⟨S_, .i32⟩
  | 123 => ⟨S102400, .i32⟩
  | 124 => ⟨S102400, .i1⟩
  | 125 => ⟨S_, .i32⟩
  | 126 => ⟨S102400, .i32⟩
  | 127 => ⟨S102400, .i32⟩
  | _ => ⟨S2560x128, .f32⟩

abbrev hbmTy0_1 (i : Nat) : BufTy := match i % 128 with
  | 0 => ⟨S102400, .i32⟩
  | 1 => ⟨S102400x1, .i32⟩
  | 2 => ⟨S2560x6, .f32⟩
  | 3 => ⟨S_, .i32⟩
  | 4 => ⟨S102400, .i32⟩
  | 5 => ⟨S102400, .i1⟩
  | 6 => ⟨S_, .i32⟩
  | 7 => ⟨S102400, .i32⟩
  | 8 => ⟨S102400, .i32⟩
  | 9 => ⟨S102400, .i32⟩
  | 10 => ⟨S102400x1, .i32⟩
  | 11 => ⟨S1, .i32⟩
  | 12 => ⟨S_, .i32⟩
  | 13 => ⟨S102400x1, .i32⟩
  | 14 => ⟨S102400x1, .i1⟩
  | 15 => ⟨S1x1, .i32⟩
  | 16 => ⟨S102400x1, .i32⟩
  | 17 => ⟨S102400x1, .i1⟩
  | 18 => ⟨S102400x1, .i1⟩
  | 19 => ⟨S_, .i1⟩
  | 20 => ⟨S102400, .i1⟩
  | 21 => ⟨S102400x6, .f32⟩
  | 22 => ⟨S102400x6, .i1⟩
  | 23 => ⟨S_, .f32⟩
  | 24 => ⟨S102400x6, .f32⟩
  | 25 => ⟨S102400x6, .f32⟩
  | 26 => ⟨S102400x6, .f32⟩
  | 27 => ⟨S102400x6x1, .f32⟩
  | 28 => ⟨S102400x6x128, .f32⟩
  | 29 => ⟨S102400x6x128, .f32⟩
  | 30 => ⟨S_, .f32⟩
  | 31 => ⟨S2560x6x128, .f32⟩
  | 32 => ⟨S_, .i32⟩
  | 33 => ⟨S102400, .i32⟩
  | 34 => ⟨S102400, .i1⟩
  | 35 => ⟨S_, .i32⟩
  | 36 => ⟨S102400, .i32⟩
  | 37 => ⟨S102400, .i32⟩
  | 38 => ⟨S102400, .i32⟩
  | 39 => ⟨S102400x1, .i32⟩
  | 40 => ⟨S2560x6x128, .f32⟩
  | 41 => ⟨S2560x768, .f32⟩
  | 42 => ⟨S2560x128, .f32⟩
  | 43 => ⟨S1x128, .f32⟩
  | 44 => ⟨S2560x128, .f32⟩
  | 45 => ⟨S2560x128, .f32⟩
  | 46 => ⟨S_, .f32⟩
  | 47 => ⟨S2560x128, .f32⟩
  | 48 => ⟨S2560x128, .f32⟩
  | 49 => ⟨S2560x128, .f32⟩
  | 50 => ⟨S2560x128, .f32⟩
  | 51 => ⟨S2560x128, .f32⟩
  | 52 => ⟨S_, .f32⟩
  | 53 => ⟨S2560, .f32⟩
  | 54 => ⟨S2560x1, .f32⟩
  | 55 => ⟨S_, .f32⟩
  | 56 => ⟨S2560x1, .f32⟩
  | 57 => ⟨S2560x1, .f32⟩
  | 58 => ⟨S_, .i32⟩
  | 59 => ⟨S_, .f32⟩
  | 60 => ⟨S2560, .f32⟩
  | 61 => ⟨S2560x1, .f32⟩
  | 62 => ⟨S_, .f32⟩
  | 63 => ⟨S2560x1, .f32⟩
  | 64 => ⟨S2560x1, .f32⟩
  | 65 => ⟨S2560x128, .f32⟩
  | 66 => ⟨S2560x128, .f32⟩
  | 67 => ⟨S2560x128, .f32⟩
  | 68 => ⟨S_, .f32⟩
  | 69 => ⟨S_, .f32⟩
  | 70 => ⟨S_, .f32⟩
  | 71 => ⟨S_, .f32⟩
  | 72 => ⟨S2560, .f32⟩
  | 73 => ⟨S2560x1, .f32⟩
  | 74 => ⟨S2560x1, .f32⟩
  | 75 => ⟨S2560x1, .f32⟩
  | 76 => ⟨S_, .f32⟩
  | 77 => ⟨S_, .i1⟩
  | 78 => ⟨S_, .f32⟩
  | 79 => ⟨S_, .f32⟩
  | 80 => ⟨S2560x1, .f32⟩
  | 81 => ⟨S2560x1, .f32⟩
  | 82 => ⟨S2560x128, .f32⟩
  | 83 => ⟨S2560x128, .f32⟩
  | 84 => ⟨S1x128, .f32⟩
  | 85 => ⟨S2560x128, .f32⟩
  | 86 => ⟨S2560x128, .f32⟩
  | 87 => ⟨S_, .f32⟩
  | 88 => ⟨S2560x1, .f32⟩
  | 89 => ⟨S2560x1, .f32⟩
  | 90 => ⟨S2560x1, .f32⟩
  | 91 => ⟨S2560x128, .f32⟩
  | 92 => ⟨S2560x128, .f32⟩
  | 93 => ⟨S1x128, .f32⟩
  | 94 => ⟨S2560x128, .f32⟩
  | 95 => ⟨S2560x128, .f32⟩
  | 96 => ⟨S_, .f32⟩
  | 97 => ⟨S2560x128, .f32⟩
  | 98 => ⟨S2560x128, .f32⟩
  | 99 => ⟨S2560x128, .f32⟩
  | 100 => ⟨S2560x128, .f32⟩
  | 101 => ⟨S_, .f32⟩
  | 102 => ⟨S2560x128, .f32⟩
  | 103 => ⟨S2560x128, .f32⟩
  | _ => ⟨S2560x128, .f32⟩

abbrev hbmTy (i : Nat) : BufTy := match i / 128 with
  | 0 => hbmTy0_0 i
  | 1 => hbmTy0_1 i
  | _ => ⟨S2560x128, .f32⟩

abbrev bufTy : (tb : Table) → Fin (tcTables nBuf tb) → BufTy
  | .hbm, ⟨i, _⟩ => hbmTy i
  | _, _ => ⟨S2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_call3_cst : Ref sig .tc := ⟨.hbm, 105, rfl⟩
abbrev main_call3_v0 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_cst : Ref sig .tc := ⟨.hbm, 110, rfl⟩
abbrev main_v27 : Ref sig .tc := ⟨.hbm, 111, rfl⟩
abbrev main_cst_0 : Ref sig .tc := ⟨.hbm, 112, rfl⟩
abbrev main_v28 : Ref sig .tc := ⟨.hbm, 113, rfl⟩
abbrev main_v29 : Ref sig .tc := ⟨.hbm, 114, rfl⟩
abbrev main_cst_1 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_cst_2 : Ref sig .tc := ⟨.hbm, 120, rfl⟩
abbrev main_v34 : Ref sig .tc := ⟨.hbm, 121, rfl⟩
abbrev main_c : Ref sig .tc := ⟨.hbm, 122, rfl⟩
abbrev main_v35 : Ref sig .tc := ⟨.hbm, 123, rfl⟩
abbrev main_v36 : Ref sig .tc := ⟨.hbm, 124, rfl⟩
abbrev main_c_3 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_call4_c : Ref sig .tc := ⟨.hbm, 131, rfl⟩
abbrev main_call4_v0 : Ref sig .tc := ⟨.hbm, 132, rfl⟩
abbrev main_call4_v1 : Ref sig .tc := ⟨.hbm, 133, rfl⟩
abbrev main_call4_c_0 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_c_1 : Ref sig .tc := ⟨.hbm, 139, rfl⟩
abbrev main_call4_c_2 : Ref sig .tc := ⟨.hbm, 140, rfl⟩
abbrev main_call4_v6 : Ref sig .tc := ⟨.hbm, 141, rfl⟩
abbrev main_call4_v7 : Ref sig .tc := ⟨.hbm, 142, rfl⟩
abbrev main_call4_v8 : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_c_3 : Ref sig .tc := ⟨.hbm, 147, rfl⟩
abbrev main_call4_v12 : Ref sig .tc := ⟨.hbm, 148, rfl⟩
abbrev main_call4_v13 : Ref sig .tc := ⟨.hbm, 149, rfl⟩
abbrev main_call4_v14 : Ref sig .tc := ⟨.hbm, 150, rfl⟩
abbrev main_call4_cst : Ref sig .tc := ⟨.hbm, 151, rfl⟩
abbrev main_call4_v15 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_cst_4 : Ref sig .tc := ⟨.hbm, 158, rfl⟩
abbrev main_v47 : Ref sig .tc := ⟨.hbm, 159, rfl⟩
abbrev main_c_5 : Ref sig .tc := ⟨.hbm, 160, rfl⟩
abbrev main_v48 : Ref sig .tc := ⟨.hbm, 161, rfl⟩
abbrev main_v49 : Ref sig .tc := ⟨.hbm, 162, rfl⟩
abbrev main_c_6 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_v53 : Ref sig .tc := ⟨.hbm, 167, rfl⟩
abbrev main_v54 : Ref sig .tc := ⟨.hbm, 168, rfl⟩
abbrev main_v55 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_call5_cst : Ref sig .tc := ⟨.hbm, 174, rfl⟩
abbrev main_call5_v0 : Ref sig .tc := ⟨.hbm, 175, rfl⟩
abbrev main_v60 : Ref sig .tc := ⟨.hbm, 176, rfl⟩
abbrev main_v61 : Ref sig .tc := ⟨.hbm, 177, rfl⟩
abbrev main_v62 : Ref sig .tc := ⟨.hbm, 178, rfl⟩
abbrev main_v63 : Ref sig .tc := ⟨.hbm, 179, rfl⟩
abbrev main_cst_7 : Ref sig .tc := ⟨.hbm, 180, rfl⟩
abbrev main_v64 : Ref sig .tc := ⟨.hbm, 181, rfl⟩
abbrev main_v65 : Ref sig .tc := ⟨.hbm, 182, rfl⟩
abbrev main_cst_8 : Ref sig .tc := ⟨.hbm, 183, rfl⟩
abbrev main_v66 : Ref sig .tc := ⟨.hbm, 184, rfl⟩
abbrev main_v67 : Ref sig .tc := ⟨.hbm, 185, rfl⟩
abbrev main_c_9 : Ref sig .tc := ⟨.hbm, 186, rfl⟩
abbrev main_call6_cst : Ref sig .tc := ⟨.hbm, 187, rfl⟩
abbrev main_call6_v0 : Ref sig .tc := ⟨.hbm, 188, rfl⟩
abbrev main_call6_v1 : Ref sig .tc := ⟨.hbm, 189, rfl⟩
abbrev main_call6_cst_0 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_call6_v5 : Ref sig .tc := ⟨.hbm, 194, rfl⟩
abbrev main_call6_v6 : Ref sig .tc := ⟨.hbm, 195, rfl⟩
abbrev main_call6_v7 : Ref sig .tc := ⟨.hbm, 196, rfl⟩
abbrev main_call6_cst_1 : Ref sig .tc := ⟨.hbm, 197, rfl⟩
abbrev main_call6_v8 : Ref sig .tc := ⟨.hbm, 198, rfl⟩
abbrev main_call6_cst_2 : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_v12 : Ref sig .tc := ⟨.hbm, 203, rfl⟩
abbrev main_call6_cst_3 : Ref sig .tc := ⟨.hbm, 204, rfl⟩
abbrev main_call6_v13 : Ref sig .tc := ⟨.hbm, 205, rfl⟩
abbrev main_call6_cst_4 : Ref sig .tc := ⟨.hbm, 206, rfl⟩
abbrev main_call6_call0_v0 : Ref sig .tc := ⟨.hbm, 207, rfl⟩
abbrev main_call6_call0_v1 : Ref sig .tc := ⟨.hbm, 208, rfl⟩
abbrev main_v68 : Ref sig .tc := ⟨.hbm, 209, rfl⟩
abbrev main_v69 : Ref sig .tc := ⟨.hbm, 210, rfl⟩
abbrev main_v70 : Ref sig .tc := ⟨.hbm, 211, rfl⟩
abbrev main_v71 : Ref sig .tc := ⟨.hbm, 212, rfl⟩
abbrev main_v72 : Ref sig .tc := ⟨.hbm, 213, rfl⟩
abbrev main_v73 : Ref sig .tc := ⟨.hbm, 214, rfl⟩
abbrev main_cst_10 : Ref sig .tc := ⟨.hbm, 215, rfl⟩
abbrev main_v74 : Ref sig .tc := ⟨.hbm, 216, rfl⟩
abbrev main_v75 : Ref sig .tc := ⟨.hbm, 217, rfl⟩
abbrev main_v76 : Ref sig .tc := ⟨.hbm, 218, rfl⟩
abbrev main_v77 : Ref sig .tc := ⟨.hbm, 219, rfl⟩
abbrev main_v78 : Ref sig .tc := ⟨.hbm, 220, rfl⟩
abbrev main_v79 : Ref sig .tc := ⟨.hbm, 221, rfl⟩
abbrev main_v80 : Ref sig .tc := ⟨.hbm, 222, rfl⟩
abbrev main_v81 : Ref sig .tc := ⟨.hbm, 223, rfl⟩
abbrev main_call7_cst : Ref sig .tc := ⟨.hbm, 224, rfl⟩
abbrev main_call7_v0 : Ref sig .tc := ⟨.hbm, 225, rfl⟩
abbrev main_v82 : Ref sig .tc := ⟨.hbm, 226, rfl⟩
abbrev main_v83 : Ref sig .tc := ⟨.hbm, 227, rfl⟩
abbrev main_v84 : Ref sig .tc := ⟨.hbm, 228, rfl⟩
abbrev main_call8_cst : Ref sig .tc := ⟨.hbm, 229, rfl⟩
abbrev main_call8_v0 : Ref sig .tc := ⟨.hbm, 230, rfl⟩
abbrev main_v85 : Ref sig .tc := ⟨.hbm, 231, rfl⟩

abbrev nD : Nat := 1
abbrev τ : Topo := Topo.v7x

variable {F : FTy → Type} [FloatOps F]
-- ==== Proof.Spec.lean ====
/- The common language of the two programs: matrices as functions of row and column, one attention
   layer's pieces as sums of products, and the normalised tail both programs end with. -/
module

public import Idealize.ShloMosaic.Lib.Pointwise

@[expose] public section

noncomputable section

namespace Cert.Attn

open Idealize.ShloMosaic

/-- A matrix of extended reals. -/
abbrev Mat (a b : ℕ) : Type := Fin a → Fin b → EReal

/-- A vector of two axes as a matrix. -/
abbrev mat {a b : ℕ} (x : (⟨2, ![a, b]⟩ : Shape).Idx → EReal) : Mat a b := fun i j => x (ix2 i j)

/-- The scale of the scores as the programs' own literal. -/
def scale : EReal := Ideal.ofBits .f32 0x3DB504F3#32

/-- The length of a row, 128, as a float literal. -/
def rowLen : EReal := Ideal.ofBits .f32 0x43000000#32

/-- The small constant added to the mean square. -/
def eps : EReal := Ideal.ofBits .f32 0x3727C5AC#32

/-- Row `q` of the `b`-th block of eighty rows. -/
def blockRow (b : Fin 32) (q : Fin 80) : Fin 2560 := ⟨b.val * 80 + q.val, by omega⟩

/-- The block of eighty a row lies in. -/
def blockOf (r : Fin 2560) : Fin 32 := ⟨r.val / 80, by omega⟩

/-- The place of a row inside its block. -/
def placeOf (r : Fin 2560) : Fin 80 := ⟨r.val % 80, by omega⟩

/-- Column `d` of head `h` in a matrix of six heads of 128. -/
def headCol (h : Fin 6) (d : Fin 128) : Fin 768 := ⟨128 * h.val + d.val, by omega⟩

/-- A matrix product. -/
def times {a b c : ℕ} (X : Mat a b) (W : Mat b c) : Mat a c := fun r j => ∑ k, X r k * W k j

/-- The positive part. -/
def relu {a b : ℕ} (X : Mat a b) : Mat a b := fun r j => max (X r j) 0

/-- The query weights of head `h`, scaled, times its key weights. -/
def keyed (Wq Wk : Mat 128 768) (h : Fin 6) : Mat 128 128 :=
  fun i k => ∑ c, (Wq i (headCol h c) * scale) * Wk k (headCol h c)

/-- The mask between two places of a block: nothing inside a scene, minus infinity across scenes. -/
def mask (p q : Fin 80) : EReal := if p.val / 40 = q.val / 40 then 0 else ⊥

/-- The exponential of the masked score between row `r` and place `q` of its block. -/
def blockWeight (X : Mat 2560 128) (Wq Wk : Mat 128 768) (h : Fin 6) (r : Fin 2560) (q : Fin 80) : EReal :=
  Ideal.exp (∑ k, times X (keyed Wq Wk h) r k * X (blockRow (blockOf r) q) k + mask (placeOf r) q)

/-- What a head makes of a row by mixing its block and dividing once. -/
def blockHead (X : Mat 2560 128) (Wq Wk : Mat 128 768) (V : Mat 2560 768) (r : Fin 2560) (h : Fin 6) (d : Fin 128) :
    EReal :=
  (∑ q, blockWeight X Wq Wk h r q * V (blockRow (blockOf r) q) (headCol h d))
    * Ideal.div 1 (∑ q, blockWeight X Wq Wk h r q)

/-- All heads through the first output matrix. -/
def joined (H : Fin 2560 → Fin 6 → Fin 128 → EReal) (W : Mat 768 128) : Mat 2560 128 :=
  fun r j => ∑ h, ∑ d, H r h d * W (headCol h d) j

/-- The mean of a row. -/
def mean (Y : Mat 2560 128) (r : Fin 2560) : EReal := Ideal.div (∑ k, Y r k) rowLen

/-- A row with its mean taken off. -/
def centredAt (Y : Mat 2560 128) : Mat 2560 128 := fun r j => Y r j - mean Y r

/-- The mean square of a row of centred values. -/
def spread (Y : Mat 2560 128) (r : Fin 2560) : EReal := mean (fun r j => centredAt Y r j * centredAt Y r j) r

/-- The normalised rows: centred, over the root of the mean square plus the small constant. -/
def normedAt (Y : Mat 2560 128) : Mat 2560 128 := fun r j => centredAt Y r j * Ideal.rsqrt (spread Y r + eps)

/-- The layer after the attention's sum `s`, up to the normalisation. -/
def before (X s : Mat 2560 128) (Wo2 W1 : Mat 128 128) : Mat 2560 128 :=
  fun r j => times X W1 r j + times (relu s) Wo2 r j

/-- The layer's result, from the normalised rows. -/
def after (X N : Mat 2560 128) (W2 : Mat 128 128) : Mat 2560 128 :=
  fun r j => max (times (relu N) W2 r j + X r j) 0

end Cert.Attn
end
-- ==== Proof.KernelHead.lean ====
/- One attention head as the kernel computes it, on whole vectors: the exponentials of the masked
   scores, the reciprocals of their row sums, and the mixed values. The six heads of the kernel are
   six uses of these functions, so each is read at an index once, here. -/
module

public import proofs.«01_k».proof.Proof.Gen.KernelIdeal.Skeleton
public import proofs.«01_k».proof.Proof.Gen.KernelIdeal
public import proofs.«01_k».proof.Proof.Spec

@[expose] public section

set_option maxRecDepth 16384

noncomputable section

namespace Cert.Attn

open Cert.KernelIdeal Cert.KernelIdeal.Gen Idealize.ShloMosaic

/-- The exponentials of one head: per block of eighty rows, the product of the projected rows `qs`
    with the rows of the block, plus the mask, exponentiated. -/
def scores (M : FVec Ideal S80x80 .f32) (x3 : FVec Ideal S32x80x128 .f32) (qs : FVec Ideal S2560x128 .f32) :
    FVec Ideal S32x80x80 .f32 :=
  exp (addf (matmul dot_S32x80x128_S32x80x128_S32x80x80_2_2_1_1_0_0 none
      (shapeCast S32x80x128 qs shapeCasts_S2560x128_S32x80x128) x3 (constant S32x80x80 .f32 0x00000000#32))
    (broadcastTo S32x80x80 (shapeCast S1x80x80 M shapeCasts_S80x80_S1x80x80) broadcasts_S1x80x80_S32x80x80))

/-- The reciprocal of the sum of each row of exponentials. -/
def recips (e : FVec Ideal S32x80x80 .f32) : FVec Ideal S32x80x1 .f32 :=
  divf (broadcast S32x80x1 (Scalar.ofBits (F := Ideal) .f32 0x3F800000#32))
    (shapeCast S32x80x1 (multiReduction .add [2] S32x80 e 0x00000000#32 reduces_S32x80x80_S32x80 (.inl rfl) rfl)
      shapeCasts_S32x80_S32x80x1)

/-- The rows `vs` of each block mixed with the exponentials and divided by their sum. -/
def mixed (e : FVec Ideal S32x80x80 .f32) (vs : FVec Ideal S2560x128 .f32) : FVec Ideal S2560x128 .f32 :=
  shapeCast S2560x128 (mulf (matmul dot_S32x80x80_S32x80x128_S32x80x128_2_1_1_2_0_0 none e
      (shapeCast S32x80x128 vs shapeCasts_S2560x128_S32x80x128) (constant S32x80x128 .f32 0x00000000#32))
    (broadcastTo S32x80x128 (recips e) broadcasts_S32x80x1_S32x80x128)) shapeCasts_S32x80x128_S2560x128

/-- The exponentials at an index. -/
theorem scores_apply (M : FVec Ideal S80x80 .f32) (x qs : FVec Ideal S2560x128 .f32)
    (b : Fin 32) (p q : Fin 80) :
    scores M (k0_pay7 x) qs (ix3 b p q)
      = Ideal.exp (∑ k : Fin 128, qs (ix2 (blockRow b p) k) * x (ix2 (blockRow b q) k) + M (ix2 p q)) := by
  unfold scores k0_pay7
  pointwise
  rfl

/-- The mixed values at an index. -/
theorem mixed_apply (e : FVec Ideal S32x80x80 .f32) (vs : FVec Ideal S2560x128 .f32) (r : Fin 2560) (d : Fin 128) :
    mixed e vs (ix2 r d)
      = (∑ q : Fin 80, e (ix3 (blockOf r) (placeOf r) q) * vs (ix2 (blockRow (blockOf r) q) d))
        * Ideal.div 1 (∑ q : Fin 80, e (ix3 (blockOf r) (placeOf r) q)) := by
  unfold mixed recips
  pointwise
  rfl

end Cert.Attn
end
-- ==== Proof.KernelRun.lean ====
/- The kernel's result array as one composed function of the argument arrays: the generated payloads,
   put together from the head of `KernelHead` and the normalised tail below. -/
module

public import proofs.«01_k».proof.Proof.Gen.KernelIdeal.Value
public import proofs.«01_k».proof.Proof.KernelHead
public import Idealize.ShloMosaic.Lib.Pipeline.ValueKit
public import Idealize.ShloMosaic.Lib.Pipeline.ReadBack

@[expose] public section

set_option maxRecDepth 16384

noncomputable section

namespace Cert.Attn

open Cert.KernelIdeal Cert.KernelIdeal.Gen Idealize.ShloMosaic Idealize.ShloMosaic.TcCoe Idealize.SL.Sem

/-- The additive mask of a block of eighty rows: zero inside a scene of forty, the named constant
    across scenes. -/
def maskVec : FVec Ideal S80x80 .f32 :=
  k0_pay6 k0_pay3 (iota .tc S80x80 32 [1] iota_S80x80_d1_w32) 40#32 k0_pay4 k0_pay5 1#32 0#32

/-- A hundred and twenty-eight columns of a wide matrix, from column `o` on. -/
def colBlk (W : FVec Ideal S128x768 .f32) (o : ℕ) (h : ∀ a, (![0, o] : Fin 2 → ℕ) a + S128x128.size a ≤ S128x768.size a) :
    FVec Ideal S128x128 .f32 :=
  View.ld (Val := Elt Ideal) (S := S128x768) (e' := .f32) W (Rect.unit ![0, o] ![128, 128] h)

/-- A hundred and twenty-eight rows of a tall matrix, from row `o` on. -/
def rowBlk (W : FVec Ideal S768x128 .f32) (o : ℕ) (h : ∀ a, (![o, 0] : Fin 2 → ℕ) a + S128x128.size a ≤ S768x128.size a) :
    FVec Ideal S128x128 .f32 :=
  View.ld (Val := Elt Ideal) (S := S768x128) (e' := .f32) W (Rect.unit ![o, 0] ![128, 128] h)

/-- The query projections of all heads with the key weights already multiplied in. -/
def queryVec (X : FVec Ideal S2560x128 .f32) (Wq Wk : FVec Ideal S128x768 .f32) : FVec Ideal S2560x768 .f32 :=
  matmul dot_S2560x128_S128x768_S2560x768_1_0_0_1_n_n none X
    (concatenate S128x768 1
      [⟨S128x128, k0_pay8 (colBlk Wq 0 inb_S128x768_S128x128_0_0)
        (colBlk Wk 0 inb_S128x768_S128x128_0_0)⟩,
       ⟨S128x128, k0_pay8 (colBlk Wq 128 inb_S128x768_S128x128_0_128)
        (colBlk Wk 128 inb_S128x768_S128x128_0_128)⟩,
       ⟨S128x128, k0_pay8 (colBlk Wq 256 inb_S128x768_S128x128_0_256)
        (colBlk Wk 256 inb_S128x768_S128x128_0_256)⟩,
       ⟨S128x128, k0_pay8 (colBlk Wq 384 inb_S128x768_S128x128_0_384)
        (colBlk Wk 384 inb_S128x768_S128x128_0_384)⟩,
       ⟨S128x128, k0_pay8 (colBlk Wq 512 inb_S128x768_S128x128_0_512)
        (colBlk Wk 512 inb_S128x768_S128x128_0_512)⟩,
       ⟨S128x128, k0_pay8 (colBlk Wq 640 inb_S128x768_S128x128_0_640)
        (colBlk Wk 640 inb_S128x768_S128x128_0_640)⟩]
      concatenates_S128x128_S128x128_S128x128_S128x128_S128x128_S128x128_S128x768_d1)
    (constant S2560x768 .f32 0x00000000#32)

/-- One head's mixed values times its rows of the first output matrix. -/
def headOut (X qs vs : FVec Ideal S2560x128 .f32) (w : FVec Ideal S128x128 .f32) : FVec Ideal S2560x128 .f32 :=
  matmul dot_S2560x128_S128x128_S2560x128_1_0_0_1_n_n none (mixed (scores maskVec (k0_pay7 X) qs) vs) w
    (constant S2560x128 .f32 0x00000000#32)

/-- The six heads added up, in the kernel's order. -/
def headSum (X : FVec Ideal S2560x128 .f32) (Q V : FVec Ideal S2560x768 .f32) (Wo1 : FVec Ideal S768x128 .f32) :
    FVec Ideal S2560x128 .f32 :=
  addf (addf (addf (addf (addf
    (headOut X (extractStridedSlice S2560x128 ![0, 0] Q slices_S2560x768_o0_0_S2560x128)
      (extractStridedSlice S2560x128 ![0, 0] V slices_S2560x768_o0_0_S2560x128)
      (rowBlk Wo1 0 inb_S768x128_S128x128_0_0))
    (headOut X (extractStridedSlice S2560x128 ![0, 128] Q slices_S2560x768_o0_128_S2560x128)
      (extractStridedSlice S2560x128 ![0, 128] V slices_S2560x768_o0_128_S2560x128)
      (rowBlk Wo1 128 inb_S768x128_S128x128_128_0)))
    (headOut X (extractStridedSlice S2560x128 ![0, 256] Q slices_S2560x768_o0_256_S2560x128)
      (extractStridedSlice S2560x128 ![0, 256] V slices_S2560x768_o0_256_S2560x128)
      (rowBlk Wo1 256 inb_S768x128_S128x128_256_0)))
    (headOut X (extractStridedSlice S2560x128 ![0, 384] Q slices_S2560x768_o0_384_S2560x128)
      (extractStridedSlice S2560x128 ![0, 384] V slices_S2560x768_o0_384_S2560x128)
      (rowBlk Wo1 384 inb_S768x128_S128x128_384_0)))
    (headOut X (extractStridedSlice S2560x128 ![0, 512] Q slices_S2560x768_o0_512_S2560x128)
      (extractStridedSlice S2560x128 ![0, 512] V slices_S2560x768_o0_512_S2560x128)
      (rowBlk Wo1 512 inb_S768x128_S128x128_512_0)))
    (headOut X (extractStridedSlice S2560x128 ![0, 640] Q slices_S2560x768_o0_640_S2560x128)
      (extractStridedSlice S2560x128 ![0, 640] V slices_S2560x768_o0_640_S2560x128)
      (rowBlk Wo1 640 inb_S768x128_S128x128_640_0))

/-- The hidden rows before the normalisation: the rows themselves through `W1` plus the positive part
    of the attention's sum through `Wo2`. -/
def hidden (X s : FVec Ideal S2560x128 .f32) (Wo2 W1 : FVec Ideal S128x128 .f32) : FVec Ideal S2560x128 .f32 :=
  addf (matmul dot_S2560x128_S128x128_S2560x128_1_0_0_1_n_n none X W1 (constant S2560x128 .f32 0x00000000#32))
    (matmul dot_S2560x128_S128x128_S2560x128_1_0_0_1_n_n none
      (maximumf s (broadcast S2560x128 (Scalar.ofBits .f32 0x00000000#32))) Wo2
      (constant S2560x128 .f32 0x00000000#32))

/-- The mean of each row. -/
def rowMean (h : FVec Ideal S2560x128 .f32) : FVec Ideal S2560x1 .f32 :=
  divf (shapeCast S2560x1 (multiReduction .add [1] S2560 h 0x00000000#32 reduces_S2560x128_S2560 (.inl rfl) rfl)
    shapeCasts_S2560_S2560x1) (broadcast S2560x1 (Scalar.ofBits .f32 0x43000000#32))

/-- The rows with their mean taken off. -/
def centred (h : FVec Ideal S2560x128 .f32) : FVec Ideal S2560x128 .f32 :=
  subf h (broadcastTo S2560x128 (rowMean h) broadcasts_S2560x1_S2560x128)

/-- The centred rows over the square root of their mean square plus a small constant. -/
def normed (h : FVec Ideal S2560x128 .f32) : FVec Ideal S2560x128 .f32 :=
  mulf (centred h) (broadcastTo S2560x128
    (rsqrt (addf (rowMean (mulf (centred h) (centred h))) (broadcast S2560x1 (Scalar.ofBits .f32 0x3727C5AC#32))))
    broadcasts_S2560x1_S2560x128)

/-- The kernel's result as one function of its eight operands. -/
def kernelVec (X : FVec Ideal S2560x128 .f32) (Wq Wk Wv : FVec Ideal S128x768 .f32) (Wo1 : FVec Ideal S768x128 .f32)
    (Wo2 W1 W2 : FVec Ideal S128x128 .f32) : FVec Ideal S2560x128 .f32 :=
  k0_pay1 (matmul dot_S2560x128_S128x128_S2560x128_1_0_0_1_n_n none
    (maximumf (normed (hidden X (headSum X (queryVec X Wq Wk) (k0_pay2 X Wv) Wo1) Wo2 W1))
      (broadcast S2560x128 (Scalar.ofBits .f32 0x00000000#32))) W2 (constant S2560x128 .f32 0x00000000#32)) X

/-- The single grid point places every window at its array's origin. -/
theorem idx_zero : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] := by decide +kernel

/-- So the block of each operand is the whole of its array. -/
theorem blocks (m : (ℓ : Loc nD τ sig) → Buf (Elt Ideal) ℓ) (c : Dev nD) (t : Fin cfg0.N) :
    iblk m c 0 t = m (c.tc.loc main_arg0)
    ∧ iblk m c 1 t = m (c.tc.loc main_arg2)
    ∧ iblk m c 2 t = m (c.tc.loc main_arg4)
    ∧ iblk m c 3 t = m (c.tc.loc main_arg6)
    ∧ iblk m c 4 t = m (c.tc.loc main_arg8)
    ∧ iblk m c 5 t = m (c.tc.loc main_arg10)
    ∧ iblk m c 6 t = m (c.tc.loc main_arg11)
    ∧ iblk m c 7 t = m (c.tc.loc main_arg14) := by
  obtain ⟨i0, i1, i2, i3, i4, i5, i6, i7, -⟩ := idx_zero t
  refine ⟨?_, ?_, ?_, ?_, ?_, ?_, ?_, ?_⟩ <;> funext y
  · blk_ext [iblk, V, i0]
  · blk_ext [iblk, V, i1]
  · blk_ext [iblk, V, i2]
  · blk_ext [iblk, V, i3]
  · blk_ext [iblk, V, i4]
  · blk_ext [iblk, V, i5]
  · blk_ext [iblk, V, i6]
  · blk_ext [iblk, V, i7]

/-- The result array after the run is that function of the arrays the run began with. -/
theorem array_eq (m : (ℓ : Loc nD τ sig) → Buf (Elt Ideal) ℓ) (c : Dev nD) :
    (dats m 0 c).arrAt 8 cfg0.N = kernelVec (m (c.tc.loc main_arg0)) (m (c.tc.loc main_arg2)) (m (c.tc.loc main_arg4))
      (m (c.tc.loc main_arg6)) (m (c.tc.loc main_arg8)) (m (c.tc.loc main_arg10)) (m (c.tc.loc main_arg11))
      (m (c.tc.loc main_arg14)) := by
  refine (dats m 0 c).arrAt_eq_of_covers 8 _ (by decide +kernel) fun t hf y => ?_
  blk_simp
  rw [after0_8]
  unfold outsAt0
  frame_out
  simp only [read_unread_whole]
  obtain ⟨e0, e1, e2, e3, e4, e5, e6, e7⟩ := blocks m c t
  rw [e0, e1, e2, e3, e4, e5, e6, e7]
  have i8 := (idx_zero t).2.2.2.2.2.2.2.2
  have hy : (((View.whole main_v0).slice (win0_8.rect t)).emb y) = y := by blk_ext [i8]
  rw [hy]
  rfl

end Cert.Attn
end
-- ==== Proof.KernelRead.lean ====
/- The kernel's composed function read at an index, from the vector operations down to sums of
   products of the arguments' elements. -/
module

public import proofs.«01_k».proof.Proof.KernelRun

@[expose] public section

set_option maxRecDepth 16384

noncomputable section

namespace Cert.Attn

open Cert.KernelIdeal Cert.KernelIdeal.Gen Idealize.ShloMosaic

/-- Columns of a wide matrix at an index. -/
theorem colBlk_apply (W : FVec Ideal S128x768 .f32) (o : ℕ) (h) (i j : Fin 128) (hc : o + j.val < 768) :
    colBlk W o h (ix2 i j) = W (ix2 i ⟨o + j.val, hc⟩) := by
  unfold colBlk
  pointwise

/-- Rows of a tall matrix at an index. -/
theorem rowBlk_apply (W : FVec Ideal S768x128 .f32) (o : ℕ) (h) (i j : Fin 128) (hc : o + i.val < 768) :
    rowBlk W o h (ix2 i j) = W (ix2 ⟨o + i.val, hc⟩ j) := by
  unfold rowBlk
  pointwise

/-- A slice of columns at an index. -/
theorem slice_apply (V : FVec Ideal S2560x768 .f32) (o : ℕ) (h : S2560x768.Slices ![0, o] S2560x128) (r : Fin 2560)
    (j : Fin 128) (hc : o + j.val < 768) :
    extractStridedSlice S2560x128 ![0, o] V h (ix2 r j) = V (ix2 r ⟨o + j.val, hc⟩) := by
  pointwise

/-- One head's weight product at an index. -/
theorem weight_apply (A B : FVec Ideal S128x128 .f32) (i j : Fin 128) :
    k0_pay8 (F := Ideal) A B (ix2 i j) = ∑ c, (A (ix2 i c) * scale) * B (ix2 j c) := by
  unfold k0_pay8
  pointwise
  rfl

/-- The weight product of head `h`, for any offset that is the head's. -/
theorem keyed_apply (Wq Wk : FVec Ideal S128x768 .f32) (h : Fin 6) (o : ℕ) (ho : o = 128 * h.val) (hs hs') (i j : Fin 128) :
    k0_pay8 (F := Ideal) (colBlk Wq o hs) (colBlk Wk o hs') (ix2 i j) = keyed (mat Wq) (mat Wk) h i j := by
  subst ho
  rw [weight_apply]
  refine Finset.sum_congr rfl fun c _ => ?_
  rw [colBlk_apply _ _ _ _ _ (by omega), colBlk_apply _ _ _ _ _ (by omega)]
  rfl

/-- Two names of a matrix and of a column give the same entry. -/
theorem beside_case (A : Fin 6 → FVec Ideal S128x128 .f32) (k : Fin 128) (h i : Fin 6) (d z : Fin 128) (hi : h.val = i.val)
    (hz : z.val = d.val) : A i (ix2 k z) = A h (ix2 k d) := by
  obtain rfl : h = i := Fin.ext hi
  obtain rfl : z = d := Fin.ext hz
  rfl

/-- A product with six matrices side by side, at a column of the `h`-th. -/
theorem times_beside (X : FVec Ideal S2560x128 .f32) (A : Fin 6 → FVec Ideal S128x128 .f32) (r : Fin 2560) (h : Fin 6)
    (d : Fin 128) (c : Fin 768) (hc : c.val = 128 * h.val + d.val) :
    matmul dot_S2560x128_S128x768_S2560x768_1_0_0_1_n_n none X
      (concatenate S128x768 1 [⟨S128x128, A 0⟩, ⟨S128x128, A 1⟩, ⟨S128x128, A 2⟩, ⟨S128x128, A 3⟩, ⟨S128x128, A 4⟩,
        ⟨S128x128, A 5⟩] concatenates_S128x128_S128x128_S128x128_S128x128_S128x128_S128x128_S128x768_d1)
      (constant S2560x768 .f32 0x00000000#32) (ix2 r c) = ∑ k, X (ix2 r k) * A h (ix2 k d) := by
  pointwise
  refine Finset.sum_congr rfl fun k _ => congrArg (X (ix2 r k) * ·) ?_
  split_ifs
  any_goals exact absurd rfl (by assumption)
  all_goals
    refine beside_case A k h _ d _ ?_ ?_
    · show h.val = _
      first
        | exact (by omega : h.val = 0)
        | exact (by omega : h.val = 1)
        | exact (by omega : h.val = 2)
        | exact (by omega : h.val = 3)
        | exact (by omega : h.val = 4)
        | exact (by omega : h.val = 5)
    · simp only
      omega

/-- The combined projection at an index. -/
theorem query_apply (X : FVec Ideal S2560x128 .f32) (Wq Wk : FVec Ideal S128x768 .f32) (r : Fin 2560) (h : Fin 6) (d : Fin 128) :
    queryVec X Wq Wk (ix2 r (headCol h d)) = times (mat X) (keyed (mat Wq) (mat Wk) h) r d := by
  refine (times_beside X
    ![k0_pay8 (F := Ideal) (colBlk Wq 0 inb_S128x768_S128x128_0_0) (colBlk Wk 0 inb_S128x768_S128x128_0_0),
      k0_pay8 (F := Ideal) (colBlk Wq 128 inb_S128x768_S128x128_0_128) (colBlk Wk 128 inb_S128x768_S128x128_0_128),
      k0_pay8 (F := Ideal) (colBlk Wq 256 inb_S128x768_S128x128_0_256) (colBlk Wk 256 inb_S128x768_S128x128_0_256),
      k0_pay8 (F := Ideal) (colBlk Wq 384 inb_S128x768_S128x128_0_384) (colBlk Wk 384 inb_S128x768_S128x128_0_384),
      k0_pay8 (F := Ideal) (colBlk Wq 512 inb_S128x768_S128x128_0_512) (colBlk Wk 512 inb_S128x768_S128x128_0_512),
      k0_pay8 (F := Ideal) (colBlk Wq 640 inb_S128x768_S128x128_0_640) (colBlk Wk 640 inb_S128x768_S128x128_0_640)]
    r h d (headCol h d) rfl).trans (Finset.sum_congr rfl fun k _ => congrArg (X (ix2 r k) * ·) ?_)
  fin_cases h
  · exact keyed_apply Wq Wk 0 0 rfl _ _ k d
  · exact keyed_apply Wq Wk 1 128 rfl _ _ k d
  · exact keyed_apply Wq Wk 2 256 rfl _ _ k d
  · exact keyed_apply Wq Wk 3 384 rfl _ _ k d
  · exact keyed_apply Wq Wk 4 512 rfl _ _ k d
  · exact keyed_apply Wq Wk 5 640 rfl _ _ k d

/-- The values at an index. -/
theorem value_apply (X : FVec Ideal S2560x128 .f32) (Wv : FVec Ideal S128x768 .f32) (r : Fin 2560) (j : Fin 768) :
    k0_pay2 (F := Ideal) X Wv (ix2 r j) = relu (times (mat X) (mat Wv)) r j := by
  unfold k0_pay2
  pointwise
  rfl

/-- Whether two places of a block lie in one scene is what the kernel's words for them say. -/
def sceneWord (n one : BitVec 32) : BitVec 32 :=
  Scalar.select
    (IntOp.andi
      (IntOp.cmpi .ne
        (IntOp.subi (BitVec.setWidth 32 (IntOp.cmpi .sgt n 0#32)) (BitVec.setWidth 32 (IntOp.cmpi .slt n 0#32)))
        (Scalar.subi one (Scalar.extui (Scalar.cmpi .slt 40#32 0#32))))
      (IntOp.cmpi .ne (IntOp.remsi .vector n 40#32) 0#32))
    (IntOp.subi (IntOp.divsi .vector n 40#32) 1#32)
    (IntOp.divsi .vector n 40#32)

/-- The scene of a place in a block of two, as a word. -/
theorem sceneWord_eq : ∀ p : Fin 80, sceneWord (BitVec.ofNat 32 p.val) 1#32 = BitVec.ofNat 32 (p.val / 40) := by
  decide +kernel

/-- The mask at an index. -/
theorem mask_apply (p q : Fin 80) : maskVec (ix2 p q) = mask p q := by
  unfold maskVec k0_pay3 k0_pay4 k0_pay5 k0_pay6
  pointwise
  show Scalar.select (IntOp.cmpi .eq (sceneWord (BitVec.ofNat 32 p.val) 1#32) (sceneWord (BitVec.ofNat 32 q.val) 1#32)) 0 _ = _
  rw [sceneWord_eq, sceneWord_eq]
  have hm : (Named.named κ "mask" 0xF149F2CA#32 : Ideal .f32) = ⊥ :=
    IdealRules.named_const.ideal_named_scalar _ _ _ _ rfl
  rw [hm]
  have hw : ∀ p q : Fin 80, IntOp.cmpi .eq (BitVec.ofNat 32 (p.val / 40)) (BitVec.ofNat 32 (q.val / 40))
      = if p.val / 40 = q.val / 40 then 1#1 else 0#1 := by decide +kernel
  rw [hw]
  unfold mask
  split <;> rfl

/-- One head through its rows of the first output matrix, for any offset that is the head's. -/
theorem headOut_apply (X : FVec Ideal S2560x128 .f32) (Wq Wk : FVec Ideal S128x768 .f32) (V : FVec Ideal S2560x768 .f32)
    (w : FVec Ideal S768x128 .f32) (h : Fin 6) (o : ℕ) (ho : o = 128 * h.val) (hq hv hw) (r : Fin 2560) (j : Fin 128) :
    headOut X (extractStridedSlice S2560x128 ![0, o] (queryVec X Wq Wk) hq) (extractStridedSlice S2560x128 ![0, o] V hv)
        (rowBlk w o hw) (ix2 r j)
      = ∑ d, blockHead (mat X) (mat Wq) (mat Wk) (mat V) r h d * mat w (headCol h d) j := by
  subst ho
  unfold headOut
  pointwise
  refine Finset.sum_congr rfl fun d _ => ?_
  rw [rowBlk_apply _ _ _ _ _ (by omega), mixed_apply]
  have hE : ∀ q : Fin 80, scores maskVec (k0_pay7 X) (extractStridedSlice S2560x128 ![0, 128 * h.val] (queryVec X Wq Wk) hq)
      (ix3 (blockOf r) (placeOf r) q) = blockWeight (mat X) (mat Wq) (mat Wk) h r q := by
    intro q
    rw [scores_apply, mask_apply]
    have hr : blockRow (blockOf r) (placeOf r) = r := Fin.ext (by simp only [blockRow, blockOf, placeOf]; omega)
    rw [hr]
    unfold blockWeight
    refine congrArg (fun z => Ideal.exp (z + _)) (Finset.sum_congr rfl fun k _ => ?_)
    rw [slice_apply _ _ _ _ _ (by omega)]
    exact congrArg (· * _) (query_apply X Wq Wk r h k)
  simp only [hE]
  refine congrArg (· * _) (congrArg (· * _) (Finset.sum_congr rfl fun q _ => ?_))
  rw [slice_apply _ _ _ _ _ (by omega)]
  rfl

/-- The six heads' sum at an index. -/
theorem headSum_apply (X : FVec Ideal S2560x128 .f32) (Wq Wk : FVec Ideal S128x768 .f32) (V : FVec Ideal S2560x768 .f32)
    (w : FVec Ideal S768x128 .f32) (r : Fin 2560) (j : Fin 128) :
    headSum X (queryVec X Wq Wk) V w (ix2 r j) = joined (blockHead (mat X) (mat Wq) (mat Wk) (mat V)) (mat w) r j := by
  unfold headSum
  pointwise
  rw [headOut_apply X Wq Wk V w 0 0 rfl, headOut_apply X Wq Wk V w 1 128 rfl, headOut_apply X Wq Wk V w 2 256 rfl,
    headOut_apply X Wq Wk V w 3 384 rfl, headOut_apply X Wq Wk V w 4 512 rfl, headOut_apply X Wq Wk V w 5 640 rfl]
  unfold joined
  rw [Fin.sum_univ_six]

/-- The rows before the normalisation at an index. -/
theorem hidden_apply (X s : FVec Ideal S2560x128 .f32) (Wo2 W1 : FVec Ideal S128x128 .f32) (r : Fin 2560) (j : Fin 128) :
    hidden X s Wo2 W1 (ix2 r j) = before (mat X) (mat s) (mat Wo2) (mat W1) r j := by
  unfold hidden
  pointwise
  rfl

/-- A row's mean. -/
theorem rowMean_apply (h : FVec Ideal S2560x128 .f32) (r : Fin 2560) : rowMean h (ix2 r 0) = mean (mat h) r := by
  unfold rowMean
  pointwise
  rfl

/-- The centred rows at an index. -/
theorem centred_apply (h : FVec Ideal S2560x128 .f32) (r : Fin 2560) (j : Fin 128) :
    centred h (ix2 r j) = centredAt (mat h) r j := by
  unfold centred
  pointwise
  rw [rowMean_apply]
  rfl

/-- The normalised rows at an index. -/
theorem normed_apply (h : FVec Ideal S2560x128 .f32) (r : Fin 2560) (j : Fin 128) :
    normed h (ix2 r j) = normedAt (mat h) r j := by
  unfold normed
  pointwise
  rw [centred_apply, rowMean_apply]
  unfold normedAt spread
  have : mat (mulf (centred h) (centred h)) = fun r j => centredAt (mat h) r j * centredAt (mat h) r j := by
    funext r j
    show mulf (centred h) (centred h) (ix2 r j) = _
    pointwise
    rw [centred_apply]
  rw [this]
  rfl

/-- The kernel's result at an index. -/
theorem kernelVec_apply (X : FVec Ideal S2560x128 .f32) (Wq Wk Wv : FVec Ideal S128x768 .f32) (Wo1 : FVec Ideal S768x128 .f32)
    (Wo2 W1 W2 : FVec Ideal S128x128 .f32) (r : Fin 2560) (j : Fin 128) :
    kernelVec X Wq Wk Wv Wo1 Wo2 W1 W2 (ix2 r j)
      = after (mat X) (normedAt (before (mat X)
          (joined (blockHead (mat X) (mat Wq) (mat Wk) (relu (times (mat X) (mat Wv)))) (mat Wo1)) (mat Wo2) (mat W1))) (mat W2) r j := by
  unfold kernelVec k0_pay1
  pointwise
  simp only [normed_apply]
  have hV : mat (k0_pay2 (F := Ideal) X Wv) = relu (times (mat X) (mat Wv)) := by
    funext r j; exact value_apply X Wv r j
  have hS : mat (headSum X (queryVec X Wq Wk) (k0_pay2 (F := Ideal) X Wv) Wo1)
      = joined (blockHead (mat X) (mat Wq) (mat Wk) (relu (times (mat X) (mat Wv)))) (mat Wo1) := by
    funext r j; rw [← hV]; exact headSum_apply X Wq Wk _ Wo1 r j
  have hH : mat (hidden X (headSum X (queryVec X Wq Wk) (k0_pay2 (F := Ideal) X Wv) Wo1) Wo2 W1)
      = before (mat X) (joined (blockHead (mat X) (mat Wq) (mat Wk) (relu (times (mat X) (mat Wv)))) (mat Wo1)) (mat Wo2) (mat W1) := by
    funext r j; rw [← hS]; exact hidden_apply X _ Wo2 W1 r j
  rw [hH]
  rfl

end Cert.Attn
end
-- ==== Proof.RefTake.lean ====
/- The reference's edge lists and its row look-ups: which row every edge reads, and that looking rows
   up by in-range row numbers reads exactly those rows. -/
module

public import proofs.«01_k».proof.Proof.Gen.ReferenceIdeal.Read
public import proofs.«01_k».proof.Proof.Spec
public import Idealize.ShloMosaic.Lib.Routing.Ops
public import Idealize.ShloMosaic.Lib.WordCmp

@[expose] public section

set_option maxRecDepth 16384

noncomputable section

namespace Cert.Attn

open Cert.ReferenceIdeal Cert.ReferenceIdeal.Gen Cert.ReferenceIdeal.Read Idealize.ShloMosaic

/-- Row numbers with the negative ones counted from the end, as a column. -/
def wrapped (w : IVec S102400 32) : IVec S102400x1 32 :=
  broadcastInDim S102400x1 ![0] bcast_S102400_S102400x1_0
    (select (cmpi .slt w (broadcastInDim S102400 ![] bcast_S_S102400 (constantI S_ 32 0#32)))
      (addi w (broadcastInDim S102400 ![] bcast_S_S102400 (constantI S_ 32 2560#32))) w)

/-- Whether each row number is one of a row. -/
def inRange (w : IVec S102400 32) : IVec S102400 1 :=
  Host.reduce IntOp.andi
    (andi (cmpi .sge (wrapped w) (broadcastInDim S102400x1 ![] bcast_S_S102400x1 (constantI S_ 32 0#32)))
      (cmpi .sle (wrapped w) (broadcastInDim S102400x1 ![0, 1] bcast_S1x1_S102400x1_0_1
        (broadcastInDim S1x1 ![1] bcast_S1_S1x1_1 (constantI S1 32 2559#32)))))
    (constantI S_ 1 1#1) reducesTo_S102400x1_S102400_d1 h_S_

/-- Rows of 128 looked up by number, a filler where the number is of no row. -/
def take128 (x : FVec Ideal S2560x128 .f32) (w : IVec S102400 32) : FVec Ideal S102400x128 .f32 :=
  select (broadcastInDim S102400x128 ![0] bcast_S102400_S102400x128_0 (inRange w))
    (Host.gather gather_S2560x128_S102400x1_S102400x128_1_0_n_n_0_1_1128 x (wrapped w))
    (broadcastInDim S102400x128 ![] bcast_S_S102400x128 (constant S_ .f32 0x7FC00000#32))

/-- Rows of 6 looked up by number. -/
def take6 (x : FVec Ideal S2560x6 .f32) (w : IVec S102400 32) : FVec Ideal S102400x6 .f32 :=
  select (broadcastInDim S102400x6 ![0] bcast_S102400_S102400x6_0 (inRange w))
    (Host.gather gather_S2560x6_S102400x1_S102400x6_1_0_n_n_0_1_16 x (wrapped w))
    (broadcastInDim S102400x6 ![] bcast_S_S102400x6 (constant S_ .f32 0x7FC00000#32))

/-- The rows that the queries, keys and values are made of, and the edges' sums, are look-ups by the two edge lists. -/
theorem v7_eq (x0 x1) : val_main_v7 (F := Ideal) x0 x1 = take128 x0 (val_main_v2 (F := Ideal) x1) := rfl
theorem v13_eq (x0 x1) : val_main_v13 (F := Ideal) x0 x1 = take128 x0 (val_main_v6 (F := Ideal) x1) := rfl
theorem v19_eq (x0 x1) : val_main_v19 (F := Ideal) x0 x1 = take128 x0 (val_main_v6 (F := Ideal) x1) := rfl
theorem v42_eq (x0 x1 x2 x3 x4 x5) : val_main_v42 (F := Ideal) x0 x1 x2 x3 x4 x5
    = take6 (val_main_v41 (F := Ideal) x0 x1 x2 x3 x4 x5) (val_main_v2 (F := Ideal) x1) := rfl
theorem v40_eq (x1) : val_main_v40 (F := Ideal) x1 = wrapped (val_main_v2 (F := Ideal) x1) := rfl
theorem v53_eq (x1) : val_main_v53 (F := Ideal) x1 = wrapped (val_main_v2 (F := Ideal) x1) := rfl

/-- The agent numbers: place `i` of scene `s` is row `40 s + i`. -/
def Numbered (x1 : IVec S64x40 32) : Prop := ∀ (s : Fin 64) (i : Fin 40), x1 (ix2 s i) = BitVec.ofNat 32 (40 * s.val + i.val)

/-- The row an edge goes to. -/
def hiRow (e : Fin 102400) : Fin 2560 := ⟨e.val / 40, by omega⟩

/-- The row an edge comes from. -/
def wiRow (e : Fin 102400) : Fin 2560 := ⟨40 * (e.val / 1600) + e.val % 40, by omega⟩

/-- The first edge list holds the row an edge goes to. -/
theorem hi_apply (x1 : IVec S64x40 32) (h : Numbered x1) (e : Fin 102400) :
    val_main_v2 (F := Ideal) x1 (ix1 e) = BitVec.ofNat 32 (hiRow e).val := by
  unfold val_main_v2 val_main_v1 val_main_v0
  pointwise
  refine (h _ _).trans (congrArg _ ?_)
  simp only [hiRow]
  omega

/-- The second edge list holds the row an edge comes from. -/
theorem wi_apply (x1 : IVec S64x40 32) (h : Numbered x1) (e : Fin 102400) :
    val_main_v6 (F := Ideal) x1 (ix1 e) = BitVec.ofNat 32 (wiRow e).val := by
  unfold val_main_v6 val_main_v5 val_main_v4 val_main_v3
  pointwise
  refine (h _ _).trans (congrArg _ ?_)
  simp only [wiRow]

/-- A row number counted from the front stays as it is. -/
theorem wrapped_apply (w : IVec S102400 32) (e : Fin 102400) (z : Fin 1) (t : Fin 2560) (h : w (ix1 e) = BitVec.ofNat 32 t.val) :
    wrapped w (ix2 e z) = BitVec.ofNat 32 t.val := by
  unfold wrapped
  pointwise
  rw [h]
  rw [WordCmp.cmpi_slt_zero, WordCmp.select_decide, if_neg (Nat.not_le.2 ?_)]
  rw [BitVec.toNat_ofNat]
  omega

/-- The conjunction of ones is one. -/
theorem foldl_and (l : List (S102400x1.Idx)) (f : S102400x1.Idx → BitVec 1) (h : ∀ i, f i = 1#1) :
    l.foldl (fun r i => IntOp.andi r (f i)) 1#1 = 1#1 := by
  induction l with
  | nil => rfl
  | cons a l ih => rw [List.foldl_cons, h a]; exact ih

/-- Every row number of a row is in range. -/
theorem inRange_apply (w : IVec S102400 32) (t : Fin 102400 → Fin 2560) (h : ∀ e, w (ix1 e) = BitVec.ofNat 32 (t e).val)
    (e : Fin 102400) : inRange w (ix1 e) = 1#1 := by
  unfold inRange
  rw [Host.reduce_eq_foldl]
  refine foldl_and _ _ fun i => ?_
  obtain ⟨a, z, rfl⟩ : ∃ (a : Fin 102400) (z : Fin 1), i = ix2 a z := ⟨i 0, i 1, by funext q; fin_cases q <;> rfl⟩
  have hw := wrapped_apply w a z (t a) (h a)
  generalize wrapped w = W at hw ⊢
  pointwise
  rw [hw]
  generalize t a = b
  rw [WordCmp.cmpi_sge_ofNat (by omega) (by omega), WordCmp.cmpi_sle_ofNat (by omega) (by omega), decide_eq_true (Nat.zero_le _),
    decide_eq_true (by omega : b.val ≤ 2559)]
  rfl

/-- Looking up rows of 128 by row numbers reads those rows. -/
theorem take128_apply (x : FVec Ideal S2560x128 .f32) (w : IVec S102400 32) (t : Fin 102400 → Fin 2560)
    (h : ∀ e, w (ix1 e) = BitVec.ofNat 32 (t e).val) (e : Fin 102400) (y : Fin 128) :
    take128 x w (ix2 e y) = x (ix2 (t e) y) := by
  have hg : Host.gather gather_S2560x128_S102400x1_S102400x128_1_0_n_n_0_1_1128 x (wrapped w) (ix2 e y) = x (ix2 (t e) y) := by
    have hw := wrapped_apply w e 0 (t e) (h e)
    rw [ix2_eq_valueIdx] at hw ⊢
    rw [ix2_eq_valueIdx]
    exact Routing.gather_row _ rfl rfl rfl rfl rfl x _ e y (t e) hw (by decide)
  have hr := inRange_apply w t h e
  unfold take128
  generalize Host.gather _ _ _ = G at hg ⊢
  generalize inRange w = I at hr ⊢
  pointwise
  rw [hr, hg]
  rfl

/-- Looking up rows of six by row numbers reads those rows. -/
theorem take6_apply (x : FVec Ideal S2560x6 .f32) (w : IVec S102400 32) (t : Fin 102400 → Fin 2560)
    (h : ∀ e, w (ix1 e) = BitVec.ofNat 32 (t e).val) (e : Fin 102400) (y : Fin 6) :
    take6 x w (ix2 e y) = x (ix2 (t e) y) := by
  have hg : Host.gather gather_S2560x6_S102400x1_S102400x6_1_0_n_n_0_1_16 x (wrapped w) (ix2 e y) = x (ix2 (t e) y) := by
    have hw := wrapped_apply w e 0 (t e) (h e)
    rw [ix2_eq_valueIdx] at hw ⊢
    rw [ix2_eq_valueIdx]
    exact Routing.gather_row _ rfl rfl rfl rfl rfl x _ e y (t e) hw (by decide)
  have hr := inRange_apply w t h e
  unfold take6
  generalize Host.gather _ _ _ = G at hg ⊢
  generalize inRange w = I at hr ⊢
  pointwise
  rw [hr, hg]
  rfl

end Cert.Attn
end
-- ==== Proof.RefScatter.lean ====
/- The reference's sums over edges: where an edge's values land, and the sum that reaches each row. -/
module

public import proofs.«01_k».proof.Proof.RefTake
public import Idealize.ShloMosaic.Lib.Routing.OpsPair

@[expose] public section

set_option maxRecDepth 16384

noncomputable section

namespace Cert.Attn

open Cert.ReferenceIdeal Cert.ReferenceIdeal.Gen Cert.ReferenceIdeal.Read Idealize.ShloMosaic

/-- Where a value of six an edge lands: in the row that its number names, in its own column. -/
theorem lands6 (idx : IVec S102400x1 32) (e : Fin 102400) (y c : Fin 6) (r : Fin 2560) :
    scatter_S2560x6_S102400x1_S102400x6_1_0_0_1.resultIdx? (ix2 e y) idx = some (ix2 r c)
      ↔ (idx (ix2 e 0)).toInt = r.val ∧ y = c := by
  have h0 : scatter_S2560x6_S102400x1_S102400x6_1_0_0_1.start (ix2 e y) idx 0 = (idx (ix2 e 0)).toInt := by
    unfold ScatterDims.start
    rw [dif_pos (by decide)]
    refine congrArg (fun i => (idx i).toInt) (funext fun a => ?_)
    fin_cases a <;> rfl
  have h1 : scatter_S2560x6_S102400x1_S102400x6_1_0_0_1.start (ix2 e y) idx 1 = 0 := rfl
  have w0 : scatter_S2560x6_S102400x1_S102400x6_1_0_0_1.window (ix2 e y) 0 = 0 := rfl
  have w1 : scatter_S2560x6_S102400x1_S102400x6_1_0_0_1.window (ix2 e y) 1 = y.val := rfl
  rw [Routing.resultIdx?_eq_some]
  constructor
  · intro h
    have a := h 0
    have b := h 1
    rw [h0, w0] at a
    rw [h1, w1] at b
    refine ⟨by simpa using a, Fin.ext ?_⟩
    simpa using b
  · rintro ⟨h, rfl⟩ a
    match a with
    | ⟨0, _⟩ => exact (congrArg₂ (· + ·) (h0.trans h) (congrArg Int.ofNat w0)).trans (add_zero _)
    | ⟨1, _⟩ => exact (congrArg₂ (· + ·) h1 (congrArg Int.ofNat w1)).trans (zero_add _)

/-- The same with six rows of 128 an edge. -/
theorem lands768 (idx : IVec S102400x1 32) (e : Fin 102400) (y c : Fin 6) (z d : Fin 128) (r : Fin 2560) :
    scatter_S2560x6x128_S102400x1_S102400x6x128_12_0_0_1.resultIdx? (ix3 e y z) idx = some (ix3 r c d)
      ↔ (idx (ix2 e 0)).toInt = r.val ∧ y = c ∧ z = d := by
  have h0 : scatter_S2560x6x128_S102400x1_S102400x6x128_12_0_0_1.start (ix3 e y z) idx 0 = (idx (ix2 e 0)).toInt := by
    unfold ScatterDims.start
    rw [dif_pos (by decide)]
    refine congrArg (fun i => (idx i).toInt) (funext fun a => ?_)
    fin_cases a <;> rfl
  have h1 : scatter_S2560x6x128_S102400x1_S102400x6x128_12_0_0_1.start (ix3 e y z) idx 1 = 0 := rfl
  have h2 : scatter_S2560x6x128_S102400x1_S102400x6x128_12_0_0_1.start (ix3 e y z) idx 2 = 0 := rfl
  have w0 : scatter_S2560x6x128_S102400x1_S102400x6x128_12_0_0_1.window (ix3 e y z) 0 = 0 := rfl
  have w1 : scatter_S2560x6x128_S102400x1_S102400x6x128_12_0_0_1.window (ix3 e y z) 1 = y.val := rfl
  have w2 : scatter_S2560x6x128_S102400x1_S102400x6x128_12_0_0_1.window (ix3 e y z) 2 = z.val := rfl
  rw [Routing.resultIdx?_eq_some]
  constructor
  · intro h
    have a := h 0
    have b := h 1
    have c' := h 2
    rw [h0, w0] at a
    rw [h1, w1] at b
    rw [h2, w2] at c'
    refine ⟨by simpa using a, Fin.ext ?_, Fin.ext ?_⟩
    · simpa using b
    · simpa using c'
  · rintro ⟨h, rfl, rfl⟩ a
    match a with
    | ⟨0, _⟩ => exact (congrArg₂ (· + ·) (h0.trans h) (congrArg Int.ofNat w0)).trans (add_zero _)
    | ⟨1, _⟩ => exact (congrArg₂ (· + ·) h1 (congrArg Int.ofNat w1)).trans (zero_add _)
    | ⟨2, _⟩ => exact (congrArg₂ (· + ·) h2 (congrArg Int.ofNat w2)).trans (zero_add _)

/-- The `j`-th edge that goes to a row. -/
def edgeTo (r : Fin 2560) (j : Fin 40) : Fin 102400 := ⟨40 * r.val + j.val, by omega⟩

/-- The row the `j`-th edge of row `r` comes from: place `j` of the same scene. -/
def mate (r : Fin 2560) (j : Fin 40) : Fin 2560 := ⟨40 * (r.val / 40) + j.val, by omega⟩

/-- An edge of a row goes to that row. -/
theorem hiRow_edgeTo (r : Fin 2560) (j : Fin 40) : hiRow (edgeTo r j) = r := Fin.ext (by simp only [hiRow, edgeTo]; omega)

/-- The `j`-th edge of a row comes from place `j` of its scene. -/
theorem wiRow_edgeTo (r : Fin 2560) (j : Fin 40) : wiRow (edgeTo r j) = mate r j :=
  Fin.ext (by simp only [wiRow, edgeTo, mate]; omega)

/-- A row number as a word, read with its sign. -/
theorem toInt_row (b : Fin 2560) : (BitVec.ofNat 32 b.val).toInt = b.val := by
  rw [BitVec.toInt_ofNat', Int.bmod_eq_of_le] <;> omega

/-- An edge that goes to a row is one of its forty. -/
theorem edge_of (e : Fin 102400) (r : Fin 2560) (h : hiRow e = r) : e = edgeTo r ⟨e.val % 40, Nat.mod_lt _ (by decide)⟩ := by
  subst h
  exact Fin.ext (by simp only [hiRow, edgeTo]; omega)

/-- Six values an edge, added into the row the edge goes to: row `r` receives its own forty edges. -/
theorem scatter6_apply (x : FVec Ideal S2560x6 .f32) (idx : IVec S102400x1 32) (u : FVec Ideal S102400x6 .f32)
    (h : ∀ e, idx (ix2 e 0) = BitVec.ofNat 32 (hiRow e).val) (r : Fin 2560) (c : Fin 6) :
    Host.scatterAdd scatter_S2560x6_S102400x1_S102400x6_1_0_0_1 x idx u (ix2 r c)
      = x (ix2 r c) + ∑ j : Fin 40, u (ix2 (edgeTo r j) c) := by
  refine congrArg (x (ix2 r c) + ·) ?_
  refine Finset.sum_nbij' (fun k => ⟨(k 0).val % 40, Nat.mod_lt _ (by decide)⟩) (fun j => ix2 (edgeTo r j) c) ?_ ?_ ?_ ?_ ?_
  · exact fun _ _ => Finset.mem_univ _
  · intro j _
    exact Finset.mem_filter.2 ⟨Finset.mem_univ _, (lands6 _ _ _ _ _).2 ⟨by rw [h, hiRow_edgeTo, toInt_row], rfl⟩⟩
  · intro k hk
    obtain ⟨e, y, rfl⟩ : ∃ (e : Fin 102400) (y : Fin 6), k = ix2 e y := ⟨k 0, k 1, by funext q; fin_cases q <;> rfl⟩
    obtain ⟨a, rfl⟩ := (lands6 _ _ _ _ _).1 (Finset.mem_filter.1 hk).2
    rw [h, toInt_row] at a
    exact congrArg (fun e => ix2 e y) (edge_of e r (Fin.ext (by exact_mod_cast a))).symm
  · intro j _
    exact Fin.ext (show (40 * r.val + j.val) % 40 = j.val by omega)
  · intro k hk
    obtain ⟨e, y, rfl⟩ : ∃ (e : Fin 102400) (y : Fin 6), k = ix2 e y := ⟨k 0, k 1, by funext q; fin_cases q <;> rfl⟩
    obtain ⟨a, rfl⟩ := (lands6 _ _ _ _ _).1 (Finset.mem_filter.1 hk).2
    rw [h, toInt_row] at a
    exact congrArg (fun e => u (ix2 e y)) (edge_of e r (Fin.ext (by exact_mod_cast a)))

/-- The same with six rows of 128 an edge. -/
theorem scatter768_apply (x : FVec Ideal S2560x6x128 .f32) (idx : IVec S102400x1 32) (u : FVec Ideal S102400x6x128 .f32)
    (h : ∀ e, idx (ix2 e 0) = BitVec.ofNat 32 (hiRow e).val) (r : Fin 2560) (c : Fin 6) (d : Fin 128) :
    Host.scatterAdd scatter_S2560x6x128_S102400x1_S102400x6x128_12_0_0_1 x idx u (ix3 r c d)
      = x (ix3 r c d) + ∑ j : Fin 40, u (ix3 (edgeTo r j) c d) := by
  refine congrArg (x (ix3 r c d) + ·) ?_
  refine Finset.sum_nbij' (fun k => ⟨(k 0).val % 40, Nat.mod_lt _ (by decide)⟩) (fun j => ix3 (edgeTo r j) c d) ?_ ?_ ?_ ?_ ?_
  · exact fun _ _ => Finset.mem_univ _
  · intro j _
    exact Finset.mem_filter.2 ⟨Finset.mem_univ _, (lands768 _ _ _ _ _ _ _).2 ⟨by rw [h, hiRow_edgeTo, toInt_row], rfl, rfl⟩⟩
  · intro k hk
    obtain ⟨e, y, z, rfl⟩ : ∃ (e : Fin 102400) (y : Fin 6) (z : Fin 128), k = ix3 e y z :=
      ⟨k 0, k 1, k 2, by funext q; fin_cases q <;> rfl⟩
    obtain ⟨a, rfl, rfl⟩ := (lands768 _ _ _ _ _ _ _).1 (Finset.mem_filter.1 hk).2
    rw [h, toInt_row] at a
    exact congrArg (fun e => ix3 e y z) (edge_of e r (Fin.ext (by exact_mod_cast a))).symm
  · intro j _
    exact Fin.ext (show (40 * r.val + j.val) % 40 = j.val by omega)
  · intro k hk
    obtain ⟨e, y, z, rfl⟩ : ∃ (e : Fin 102400) (y : Fin 6) (z : Fin 128), k = ix3 e y z :=
      ⟨k 0, k 1, k 2, by funext q; fin_cases q <;> rfl⟩
    obtain ⟨a, rfl, rfl⟩ := (lands768 _ _ _ _ _ _ _).1 (Finset.mem_filter.1 hk).2
    rw [h, toInt_row] at a
    exact congrArg (fun e => u (ix3 e y z)) (edge_of e r (Fin.ext (by exact_mod_cast a)))

end Cert.Attn
end
-- ==== Proof.RefValue.lean ====
/- The reference's attention read at an index: scores of edges, their weights, and the weighted sum
   that reaches a row. -/
module

public import proofs.«01_k».proof.Proof.RefScatter

@[expose] public section

set_option maxRecDepth 16384

noncomputable section

namespace Cert.Attn

open Cert.ReferenceIdeal Cert.ReferenceIdeal.Gen Cert.ReferenceIdeal.Read Idealize.ShloMosaic

/-- Head and column give the column of all, in either order of the sum. -/
theorem headCol_comm (a : Fin 6) (d : Fin 128) (h) : (⟨a.val * 128 + d.val, h⟩ : Fin 768) = headCol a d :=
  Fin.ext (by simp only [headCol]; omega)

/-- Rows of edges times a weight plus a bias. -/
def project (T : FVec Ideal S102400x128 .f32) (W : FVec Ideal S128x768 .f32) (b : FVec Ideal S768 .f32) : FVec Ideal S102400x768 .f32 :=
  addf (Host.dotGeneral dot_S102400x128_S128x768_S102400x768_1_0_0_1_n_n none T W)
    (broadcastInDim S102400x768 ![0, 1] bcast_S1x768_S102400x768_0_1 (broadcastInDim S1x768 ![1] bcast_S768_S1x768_1 b))

/-- The three projections are one function of looked-up rows, weight and bias. -/
theorem v11_eq (x0 x1 x2 x3) : val_main_v11 (F := Ideal) x0 x1 x2 x3 = project (val_main_v7 (F := Ideal) x0 x1) x2 x3 := rfl
theorem v17_eq (x0 x1 x4 x5) : val_main_v17 (F := Ideal) x0 x1 x4 x5 = project (val_main_v13 (F := Ideal) x0 x1) x4 x5 := rfl
theorem v23_eq (x0 x1 x6 x7) : val_main_v23 (F := Ideal) x0 x1 x6 x7 = project (val_main_v19 (F := Ideal) x0 x1) x6 x7 := rfl

/-- A projection at an index. -/
theorem project_apply (T : FVec Ideal S102400x128 .f32) (W : FVec Ideal S128x768 .f32) (b : FVec Ideal S768 .f32) (e : Fin 102400)
    (k : Fin 768) : project T W b (ix2 e k) = ∑ c : Fin 128, T (ix2 e c) * W (ix2 c k) + b (ix1 k) := by
  unfold project
  pointwise

variable (x0 : FVec Ideal S2560x128 .f32) (x1 : IVec S64x40 32) (x2 x4 x6 : FVec Ideal S128x768 .f32) (x3 x5 x7 : FVec Ideal S768 .f32)

/-- The rows of the agents times a weight plus a bias. -/
def rowsBy (X : Mat 2560 128) (W : Mat 128 768) (b : Fin 768 → EReal) : Mat 2560 768 := fun r k => times X W r k + b k

/-- A bias as a function of its column. -/
abbrev vec {a : ℕ} (x : (⟨1, ![a]⟩ : Shape).Idx → EReal) : Fin a → EReal := fun i => x (ix1 i)

/-- The queries of an edge. -/
theorem v12_apply (h : Numbered x1) (e : Fin 102400) (a : Fin 6) (d : Fin 128) :
    val_main_v12 (F := Ideal) x0 x1 x2 x3 (ix3 e a d) = rowsBy (mat x0) (mat x2) (vec x3) (hiRow e) (headCol a d) := by
  unfold val_main_v12
  rw [v11_eq, v7_eq]
  pointwise
  rw [project_apply]
  simp only [take128_apply x0 _ hiRow (hi_apply x1 h), headCol_comm]
  rfl

/-- The keys of an edge. -/
theorem v18_apply (h : Numbered x1) (e : Fin 102400) (a : Fin 6) (d : Fin 128) :
    val_main_v18 (F := Ideal) x0 x1 x4 x5 (ix3 e a d) = rowsBy (mat x0) (mat x4) (vec x5) (wiRow e) (headCol a d) := by
  unfold val_main_v18
  rw [v17_eq, v13_eq]
  pointwise
  rw [project_apply]
  simp only [take128_apply x0 _ wiRow (wi_apply x1 h), headCol_comm]
  rfl

/-- The values of an edge. -/
theorem v25_apply (h : Numbered x1) (e : Fin 102400) (a : Fin 6) (d : Fin 128) :
    val_main_v25 (F := Ideal) x0 x1 x6 x7 (ix3 e a d) = relu (rowsBy (mat x0) (mat x6) (vec x7)) (wiRow e) (headCol a d) := by
  unfold val_main_v25 val_main_v24 val_main_call3_v0 val_main_call3_cst
  rw [v23_eq, v19_eq]
  pointwise
  rw [project_apply]
  simp only [take128_apply x0 _ wiRow (wi_apply x1 h), headCol_comm]
  rfl

/-- The score of edge `e` under head `a`: the product of its two projected rows, scaled. -/
def edgeScore (X : Mat 2560 128) (Wq Wk : Mat 128 768) (bq bk : Fin 768 → EReal) (e : Fin 102400) (a : Fin 6) : EReal :=
  (∑ c, rowsBy X Wq bq (hiRow e) (headCol a c) * rowsBy X Wk bk (wiRow e) (headCol a c)) * scale

/-- The scores of an edge. -/
theorem v29_apply (h : Numbered x1) (e : Fin 102400) (a : Fin 6) :
    val_main_v29 (F := Ideal) x0 x1 x2 x3 x4 x5 (ix2 e a) = edgeScore (mat x0) (mat x2) (mat x4) (vec x3) (vec x5) e a := by
  have h12 := v12_apply x0 x1 x2 x3 h
  have h18 := v18_apply x0 x1 x4 x5 h
  unfold val_main_v29 val_main_v27 val_main_v26 val_main_v28 val_main_cst val_main_cst_0
  generalize val_main_v12 (F := Ideal) x0 x1 x2 x3 = Q at h12 ⊢
  generalize val_main_v18 (F := Ideal) x0 x1 x4 x5 = K at h18 ⊢
  pointwise
  simp only [h12, h18]
  rfl

/-- The largest score of all, as the reference computes it. -/
def top : EReal := val_main_v30 (F := Ideal) x0 x1 x2 x3 x4 x5 ix0

/-- The exponentials of the shifted scores. -/
theorem v33_apply (h : Numbered x1) (e : Fin 102400) (a : Fin 6) :
    val_main_v33 (F := Ideal) x0 x1 x2 x3 x4 x5 (ix2 e a)
      = Ideal.exp (edgeScore (mat x0) (mat x2) (mat x4) (vec x3) (vec x5) e a - top x0 x1 x2 x4 x3 x5) := by
  have h29 := v29_apply x0 x1 x2 x4 x3 x5 h e a
  unfold val_main_v33 val_main_v32 val_main_v31 top
  generalize val_main_v29 (F := Ideal) x0 x1 x2 x3 x4 x5 = Q at h29 ⊢
  generalize val_main_v30 (F := Ideal) x0 x1 x2 x3 x4 x5 = K
  pointwise
  rw [h29]

/-- The weight of edge `e` before division, its score shifted down by `M`. -/
def edgeWeight (X : Mat 2560 128) (Wq Wk : Mat 128 768) (bq bk : Fin 768 → EReal) (M : EReal) (e : Fin 102400) (a : Fin 6) : EReal :=
  Ideal.exp (edgeScore X Wq Wk bq bk e a - M)

/-- The sums of the exponentials over the edges of a row. -/
theorem v41_apply (h : Numbered x1) (r : Fin 2560) (a : Fin 6) :
    val_main_v41 (F := Ideal) x0 x1 x2 x3 x4 x5 (ix2 r a)
      = ∑ j : Fin 40, edgeWeight (mat x0) (mat x2) (mat x4) (vec x3) (vec x5) (top x0 x1 x2 x4 x3 x5) (edgeTo r j) a := by
  have h33 := v33_apply x0 x1 x2 x4 x3 x5 h
  unfold val_main_v41
  rw [v40_eq]
  refine (scatter6_apply _ _ _ (fun e => wrapped_apply _ _ _ _ (hi_apply x1 h e)) r a).trans ?_
  have h0 : val_main_v34 (F := Ideal) (ix2 r a) = 0 := by
    unfold val_main_v34 val_main_cst_2
    pointwise
  rw [h0, zero_add]
  exact Finset.sum_congr rfl fun j _ => h33 _ _

/-- The reference's attention of row `r`: the forty edges' weights over their sum, times the values of the rows they come from. -/
def edgeHead (X : Mat 2560 128) (Wq Wk : Mat 128 768) (bq bk : Fin 768 → EReal) (V : Mat 2560 768) (M : EReal)
    (r : Fin 2560) (a : Fin 6) (d : Fin 128) : EReal :=
  ∑ j : Fin 40, Ideal.div (edgeWeight X Wq Wk bq bk M (edgeTo r j) a) (∑ j' : Fin 40, edgeWeight X Wq Wk bq bk M (edgeTo r j') a)
    * V (mate r j) (headCol a d)

/-- An edge's weighted values. -/
theorem v46_apply (h : Numbered x1) (r : Fin 2560) (j : Fin 40) (a : Fin 6) (d : Fin 128) :
    val_main_v46 (F := Ideal) x0 x1 x2 x3 x4 x5 x6 x7 (ix3 (edgeTo r j) a d)
      = Ideal.div (edgeWeight (mat x0) (mat x2) (mat x4) (vec x3) (vec x5) (top x0 x1 x2 x4 x3 x5) (edgeTo r j) a)
          (∑ j' : Fin 40, edgeWeight (mat x0) (mat x2) (mat x4) (vec x3) (vec x5) (top x0 x1 x2 x4 x3 x5) (edgeTo r j') a)
        * relu (rowsBy (mat x0) (mat x6) (vec x7)) (mate r j) (headCol a d) := by
  have h33 := v33_apply x0 x1 x2 x4 x3 x5 h (edgeTo r j) a
  have h25 := v25_apply x0 x1 x6 x7 h (edgeTo r j) a d
  have h42 : val_main_v42 (F := Ideal) x0 x1 x2 x3 x4 x5 (ix2 (edgeTo r j) a) = _ :=
    (congrFun (v42_eq x0 x1 x2 x3 x4 x5) _).trans ((take6_apply _ _ hiRow (hi_apply x1 h) (edgeTo r j) a).trans
      ((congrArg (fun q => val_main_v41 (F := Ideal) x0 x1 x2 x3 x4 x5 (ix2 q a)) (hiRow_edgeTo r j)).trans (v41_apply x0 x1 x2 x4 x3 x5 h r a)))
  rw [wiRow_edgeTo] at h25
  unfold val_main_v46 val_main_v45 val_main_v44 val_main_v43
  generalize val_main_v33 (F := Ideal) x0 x1 x2 x3 x4 x5 = W at h33 ⊢
  generalize val_main_v42 (F := Ideal) x0 x1 x2 x3 x4 x5 = U at h42 ⊢
  generalize val_main_v25 (F := Ideal) x0 x1 x6 x7 = V at h25 ⊢
  pointwise
  rw [h33, h42, h25]
  rfl

/-- The weighted values summed over the edges of a row. -/
theorem v54_apply (h : Numbered x1) (r : Fin 2560) (a : Fin 6) (d : Fin 128) :
    val_main_v54 (F := Ideal) x0 x1 x2 x3 x4 x5 x6 x7 (ix3 r a d)
      = edgeHead (mat x0) (mat x2) (mat x4) (vec x3) (vec x5) (relu (rowsBy (mat x0) (mat x6) (vec x7))) (top x0 x1 x2 x4 x3 x5) r a d := by
  have h46 := v46_apply x0 x1 x2 x4 x6 x3 x5 x7 h r
  unfold val_main_v54
  rw [v53_eq]
  refine (scatter768_apply _ _ _ (fun e => wrapped_apply _ _ _ _ (hi_apply x1 h e)) r a d).trans ?_
  have h0 : val_main_v47 (F := Ideal) (ix3 r a d) = 0 := by
    unfold val_main_v47 val_main_cst_4
    pointwise
  rw [h0, zero_add]
  exact Finset.sum_congr rfl fun j _ => h46 j a d

end Cert.Attn
end
-- ==== Proof.RefTail.lean ====
/- The reference behind its attention, read at an index: the output product, the normalised rows and
   the last product. -/
module

public import proofs.«01_k».proof.Proof.RefValue

@[expose] public section

set_option maxRecDepth 16384

noncomputable section

namespace Cert.Attn

open Cert.ReferenceIdeal Cert.ReferenceIdeal.Gen Cert.ReferenceIdeal.Read Idealize.ShloMosaic

/-- A sum over the 768 columns is a sum over heads and their columns. -/
theorem sum_heads (f : Fin 768 → EReal) : ∑ k, f k = ∑ h : Fin 6, ∑ d : Fin 128, f (headCol h d) := by
  rw [← Finset.sum_product', Finset.univ_product_univ]
  refine (Fintype.sum_equiv (finProdFinEquiv (m := 6) (n := 128)) _ _ fun p => ?_).symm
  exact congrArg f (Fin.ext (by simp only [headCol, finProdFinEquiv_apply_val]; omega))

/-- The head of a column. -/
theorem head_of (a : Fin 6) (d : Fin 128) (h) : (⟨(headCol a d).val / 128, h⟩ : Fin 6) = a :=
  Fin.ext (by simp only [headCol]; omega)

/-- The place of a column in its head. -/
theorem place_in (a : Fin 6) (d : Fin 128) (h) : (⟨(headCol a d).val % 128, h⟩ : Fin 128) = d :=
  Fin.ext (by simp only [headCol]; omega)

/-- The normalised rows as the reference writes them: scaled by ones, divided by a root, zeros added. -/
def refNormed (Y : Mat 2560 128) : Mat 2560 128 := fun r j => Ideal.div (centredAt Y r j) (Ideal.sqrt (spread Y r + eps))

/-- The row length is 128. -/
theorem rowLen_eq : rowLen = ((128 : ℝ) : EReal) := by
  unfold rowLen
  simp [Ideal.ofBits, Ideal.ieee, -EReal.coe_mul]
  norm_num

variable (x0 : FVec Ideal S2560x128 .f32) (x1 : IVec S64x40 32) (x2 x4 x6 : FVec Ideal S128x768 .f32) (x3 x5 x7 : FVec Ideal S768 .f32)
  (x8 : FVec Ideal S768x128 .f32) (x9 x12 x13 : FVec Ideal S128 .f32) (x10 x11 x14 : FVec Ideal S128x128 .f32)

/-- The reference's attention, head by head. -/
def refHead (r : Fin 2560) (a : Fin 6) (d : Fin 128) : EReal :=
  edgeHead (mat x0) (mat x2) (mat x4) (vec x3) (vec x5) (relu (rowsBy (mat x0) (mat x6) (vec x7))) (top x0 x1 x2 x4 x3 x5) r a d

/-- The layer up to the normalisation. -/
theorem v63_apply (h : Numbered x1) (h9 : ∀ j, x9 (ix1 j) = 0) (r : Fin 2560) (j : Fin 128) :
    val_main_v63 (F := Ideal) x0 x1 x2 x3 x4 x5 x6 x7 x8 x9 x10 x11 (ix2 r j)
      = before (mat x0) (joined (refHead x0 x1 x2 x4 x6 x3 x5 x7) (mat x8)) (mat x10) (mat x11) r j := by
  have h54 := v54_apply x0 x1 x2 x4 x6 x3 x5 x7 h
  unfold val_main_v63 val_main_v62 val_main_v61 val_main_v60 val_main_v59 val_main_v58 val_main_v57 val_main_v56 val_main_v55
    val_main_call5_v0 val_main_call5_cst
  generalize val_main_v54 (F := Ideal) x0 x1 x2 x3 x4 x5 x6 x7 = H at h54 ⊢
  pointwise
  simp only [h54, h9, add_zero, sum_heads, head_of, place_in]
  rfl

/-- The means of the rows. -/
theorem v67_apply (r : Fin 2560) (z : Fin 1) :
    val_main_v67 (F := Ideal) x0 x1 x2 x3 x4 x5 x6 x7 x8 x9 x10 x11 (ix2 r z)
      = mean (mat (val_main_v63 (F := Ideal) x0 x1 x2 x3 x4 x5 x6 x7 x8 x9 x10 x11)) r := by
  unfold val_main_v67 val_main_v66 val_main_v65 val_main_v64 val_main_cst_7 val_main_cst_8
  generalize val_main_v63 (F := Ideal) x0 x1 x2 x3 x4 x5 x6 x7 x8 x9 x10 x11 = Y
  pointwise
  rfl

/-- The mean squares of the centred rows. -/
theorem v68_apply (r : Fin 2560) (z : Fin 1) :
    val_main_v68 (F := Ideal) x0 x1 x2 x3 x4 x5 x6 x7 x8 x9 x10 x11 (ix2 r z)
      = spread (mat (val_main_v63 (F := Ideal) x0 x1 x2 x3 x4 x5 x6 x7 x8 x9 x10 x11)) r := by
  unfold val_main_v68 val_main_call6_v13 val_main_call6_v12 val_main_call6_v11 val_main_call6_v10 val_main_call6_v9
    val_main_call6_v8 val_main_call6_v7 val_main_call6_v6 val_main_call6_v5 val_main_call6_v4 val_main_call6_v3
    val_main_call6_v2 val_main_call6_v1 val_main_call6_v0 val_main_call6_cst val_main_call6_cst_0 val_main_call6_cst_1
    val_main_call6_cst_2 val_main_call6_cst_3 val_main_c_9
  generalize val_main_v63 (F := Ideal) x0 x1 x2 x3 x4 x5 x6 x7 x8 x9 x10 x11 = Y
  pointwise
  have h0 : Ideal.ofBits .f32 1124073472#32 - FloatOps.sitofp (F := Ideal) FTy.f32 0#32 = rowLen := by
    have hz : FloatOps.sitofp (F := Ideal) FTy.f32 0#32 = (0 : EReal) := by
      show (((0#32 : BitVec 32).toInt : ℝ) : EReal) = 0
      simp
    rw [hz, sub_zero]
    rfl
  rw [h0, if_pos (by rw [rowLen_eq]; exact_mod_cast (by norm_num : (0 : ℝ) < 128))]
  rfl

/-- The result from the rows before the normalisation. -/
theorem v85_apply (h12 : ∀ j, x12 (ix1 j) = 1) (h13 : ∀ j, x13 (ix1 j) = 0) (r : Fin 2560) (j : Fin 128) :
    val_main_v85 (F := Ideal) x0 x1 x2 x3 x4 x5 x6 x7 x8 x9 x10 x11 x12 x13 x14 (ix2 r j)
      = after (mat x0) (refNormed (mat (val_main_v63 (F := Ideal) x0 x1 x2 x3 x4 x5 x6 x7 x8 x9 x10 x11))) (mat x14) r j := by
  have h67 := v67_apply x0 x1 x2 x4 x6 x3 x5 x7 x8 x9 x10 x11
  have h68 := v68_apply x0 x1 x2 x4 x6 x3 x5 x7 x8 x9 x10 x11
  unfold val_main_v85 val_main_v84 val_main_v83 val_main_v82 val_main_v81 val_main_v80 val_main_v79 val_main_v78 val_main_v77
    val_main_v76 val_main_v75 val_main_v74 val_main_v73 val_main_v72 val_main_v71 val_main_v70 val_main_v69
    val_main_cst_10 val_main_call7_v0 val_main_call7_cst val_main_call8_v0 val_main_call8_cst
  generalize val_main_v67 (F := Ideal) x0 x1 x2 x3 x4 x5 x6 x7 x8 x9 x10 x11 = A at h67 ⊢
  generalize val_main_v68 (F := Ideal) x0 x1 x2 x3 x4 x5 x6 x7 x8 x9 x10 x11 = B at h68 ⊢
  generalize val_main_v63 (F := Ideal) x0 x1 x2 x3 x4 x5 x6 x7 x8 x9 x10 x11 = Y at h67 h68 ⊢
  pointwise
  simp only [h67, h68, h12, h13, one_mul, add_zero]
  rfl

end Cert.Attn
end
-- ==== Proof.Normal.lean ====
/- Dividing by a root and multiplying by its reciprocal normalise a row alike, whatever the row holds. -/
module

public import proofs.«01_k».proof.Proof.RefTail

@[expose] public section

noncomputable section

namespace Cert.Attn

open Idealize.ShloMosaic

/-- The small constant as a rational. -/
theorem eps_eq : eps = ((10995116 / 2 ^ 40 : ℝ) : EReal) := by
  unfold eps
  simp [Ideal.ofBits, Ideal.ieee, -EReal.coe_mul]
  norm_num

/-- A square is not negative, infinite values included. -/
theorem square_nonneg (x : EReal) : 0 ≤ x * x := by
  induction x with
  | bot => simp
  | top => simp
  | coe r => exact_mod_cast mul_self_nonneg r

/-- A mean square is not negative. -/
theorem spread_nonneg (Y : Mat 2560 128) (r : Fin 2560) : 0 ≤ spread Y r := by
  unfold spread mean
  rw [rowLen_eq, Ideal.div, if_neg (by exact_mod_cast (by norm_num : (128 : ℝ) ≠ 0))]
  refine mul_nonneg (Finset.sum_nonneg fun k _ => square_nonneg _) ?_
  rw [← EReal.coe_inv]
  exact_mod_cast (by norm_num : (0 : ℝ) ≤ 128⁻¹)

/-- Over a positive value, division by its root is the product with its reciprocal root. -/
theorem div_sqrt (y v : EReal) (h : 0 < v) : Ideal.div y (Ideal.sqrt v) = y * Ideal.rsqrt v := by
  induction v with
  | bot => exact absurd h (by simp)
  | top =>
    show Ideal.div y ⊤ = y * 0
    rw [Ideal.div, if_neg EReal.top_ne_zero, EReal.inv_top]
  | coe r =>
    have hr : 0 < r := by exact_mod_cast h
    have hs : Real.sqrt r ≠ 0 := (Real.sqrt_pos.2 hr).ne'
    have a : Ideal.sqrt (r : EReal) = ((Real.sqrt r : ℝ) : EReal) := if_neg (not_lt.2 hr.le)
    have b : Ideal.rsqrt (r : EReal) = (((Real.sqrt r)⁻¹ : ℝ) : EReal) := (if_neg (not_lt.2 hr.le)).trans (if_neg hr.ne')
    rw [a, b, Ideal.div, if_neg (by exact_mod_cast hs), EReal.coe_inv]

/-- Both programs normalise alike. -/
theorem refNormed_eq (Y : Mat 2560 128) : refNormed Y = normedAt Y := by
  funext r j
  refine div_sqrt _ _ (lt_of_lt_of_le ?_ (add_le_add_left (spread_nonneg Y r) eps))
  rw [zero_add, eps_eq]
  exact_mod_cast (by norm_num : (0 : ℝ) < 10995116 / 2 ^ 40)

end Cert.Attn
end
-- ==== Proof.Softmax.lean ====
/- The arithmetic of one attention row over the extended reals: subtracting a common finite number
   from all scores does not change the weights, and dividing the mixed values once is dividing every
   weight. The values mixed may be infinite; the scores are finite. -/
module

public import Idealize.ShloMosaic.Lib.Pointwise

@[expose] public section

namespace Cert.Attn

open Idealize.ShloMosaic

/-- A finite sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite factor may be taken into a sum of any extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- The exponential of a finite number is a finite number. -/
theorem exp_coe (r : ℝ) : Ideal.exp (r : EReal) = (Real.exp r : EReal) := rfl

/-- The exponential of minus infinity is zero. -/
theorem exp_bot : Ideal.exp (⊥ : EReal) = 0 := rfl

/-- Division by a finite number that is not zero is multiplication by its inverse. -/
theorem div_coe (x : EReal) {c : ℝ} (hc : c ≠ 0) : Ideal.div x (c : EReal) = x * ((c⁻¹ : ℝ) : EReal) := by
  have h : (c : EReal) ≠ 0 := by exact_mod_cast hc
  simp only [Ideal.div, if_neg h, EReal.coe_inv]

/-- One attention row: the mixed values divided once by the sum of the exponentials, against every
    exponential shifted by a common finite number and divided by the sum of the shifted ones. -/
theorem softmax_mix {n : ℕ} [NeZero n] (l : Fin n → ℝ) (δ : ℝ) (v : Fin n → EReal) :
    (∑ j, Ideal.exp (l j : EReal) * v j) * Ideal.div 1 (∑ j, Ideal.exp (l j : EReal))
      = ∑ j, Ideal.div (Ideal.exp ((l j + δ : ℝ) : EReal)) (∑ j', Ideal.exp ((l j' + δ : ℝ) : EReal)) * v j := by
  simp only [exp_coe, ← coe_sum]
  have hS : 0 < ∑ j, Real.exp (l j) :=
    Finset.sum_pos (fun j _ => Real.exp_pos _) ⟨0, Finset.mem_univ _⟩
  have hS' : ∑ j, Real.exp (l j + δ) = (∑ j, Real.exp (l j)) * Real.exp δ := by
    rw [Finset.sum_mul]; exact Finset.sum_congr rfl fun j _ => Real.exp_add _ _
  rw [hS']
  have hδ := Real.exp_pos δ
  rw [div_coe _ hS.ne', one_mul, sum_mul_coe _ _ (inv_pos.mpr hS).le]
  refine Finset.sum_congr rfl fun j _ => ?_
  rw [div_coe _ (mul_pos hS hδ).ne', ← EReal.coe_mul, mul_right_comm, ← EReal.coe_mul, Real.exp_add]
  congr 2
  field_simp

/-- A sum over a block of eighty of which only the `t`-th forty matter. -/
theorem sum_half (f : Fin 80 → EReal) (t : Fin 2) (hf : ∀ q : Fin 80, q.val / 40 ≠ t.val → f q = 0) :
    ∑ q, f q = ∑ j : Fin 40, f ⟨40 * t.val + j.val, by omega⟩ := by
  classical
  symm
  refine Finset.sum_of_injOn (fun j : Fin 40 => (⟨40 * t.val + j.val, by omega⟩ : Fin 80)) ?_ ?_ ?_ ?_
  · intro a _ b _ h
    have := congrArg Fin.val h
    exact Fin.ext (by simpa using this)
  · intro a _; exact Finset.mem_univ _
  · intro q _ hq
    refine hf q fun h => hq ⟨⟨q.val % 40, Nat.mod_lt _ (by norm_num)⟩, Finset.mem_coe.mpr (Finset.mem_univ _), Fin.ext ?_⟩
    show 40 * t.val + q.val % 40 = q.val
    omega
  · intro a _; rfl

end Cert.Attn
end
-- ==== Proof.RefTop.lean ====
/- The largest of all scores is a real number where all scores are. -/
module

public import proofs.«01_k».proof.Proof.RefValue
public import proofs.«01_k».proof.Proof.Softmax

@[expose] public section

set_option maxRecDepth 16384

noncomputable section

namespace Cert.Attn

open Cert.ReferenceIdeal Cert.ReferenceIdeal.Gen Cert.ReferenceIdeal.Read Idealize.ShloMosaic

/-- The larger of real numbers, folded from a real number on, is real. -/
theorem foldl_max_real {ι : Type} (l : List ι) (f : ι → EReal) (h : ∀ i, ∃ t : ℝ, f i = (t : EReal)) (c : ℝ) :
    ∃ t : ℝ, l.foldl (fun r i => max r (f i)) (c : EReal) = (t : EReal) := by
  induction l generalizing c with
  | nil => exact ⟨c, rfl⟩
  | cons i l ih =>
    obtain ⟨t, ht⟩ := h i
    obtain ⟨u, hu⟩ := ih (max c t)
    have hm : max (c : EReal) (t : EReal) = ((max c t : ℝ) : EReal) := (EReal.coe_strictMono.monotone.map_max).symm
    exact ⟨u, by rw [List.foldl_cons, ht, hm, hu]⟩

/-- Folded from minus infinity on, over at least one number, it is real as well. -/
theorem foldl_max_bot {ι : Type} (l : List ι) (f : ι → EReal) (h : ∀ i, ∃ t : ℝ, f i = (t : EReal)) (hl : l ≠ []) :
    ∃ t : ℝ, l.foldl (fun r i => max r (f i)) ⊥ = (t : EReal) := by
  match l with
  | [] => exact absurd rfl hl
  | i :: l =>
    obtain ⟨t, ht⟩ := h i
    obtain ⟨u, hu⟩ := foldl_max_real l f h t
    exact ⟨u, by rw [List.foldl_cons, ht, max_eq_right bot_le, hu]⟩

/-- The largest score is real. -/
theorem top_real (x0 : FVec Ideal S2560x128 .f32) (x1 : IVec S64x40 32) (x2 x4 : FVec Ideal S128x768 .f32) (x3 x5 : FVec Ideal S768 .f32)
    (h : ∀ (e : Fin 102400) (a : Fin 6), ∃ t : ℝ, val_main_v29 (F := Ideal) x0 x1 x2 x3 x4 x5 (ix2 e a) = (t : EReal)) :
    ∃ M : ℝ, top x0 x1 x2 x4 x3 x5 = (M : EReal) := by
  unfold top val_main_v30
  rw [Host.reduce_eq_foldl]
  have hb : val_main_cst_1 (F := Ideal) (Shape.Idx.first h_S_) = ⊥ := by
    unfold val_main_cst_1
    show Ideal.ofBits .f32 0xFF800000#32 = ⊥
    simp [Ideal.ofBits, Ideal.ieee]
  rw [hb]
  refine foldl_max_bot _ _ (fun i => ?_) ?_
  · obtain ⟨e, a, rfl⟩ : ∃ (e : Fin 102400) (a : Fin 6), i = ix2 e a := ⟨i 0, i 1, by funext q; fin_cases q <;> rfl⟩
    exact h e a
  · refine List.ne_nil_of_mem (a := ix2 0 0) (List.mem_filter.2 ⟨?_, ?_⟩)
    · exact List.mem_map.2 ⟨S102400x6.rowMajor (ix2 0 0), List.mem_finRange _, Equiv.symm_apply_apply _ _⟩
    · exact decide_eq_true (funext fun a => a.elim0)

end Cert.Attn
end
-- ==== Proof.Attention.lean ====
/- The kernel's attention over blocks of eighty masked rows is the reference's attention over the
   forty edges of a row, where the arguments are real. -/
module

public import proofs.«01_k».proof.Proof.RefValue
public import proofs.«01_k».proof.Proof.Softmax

@[expose] public section

noncomputable section

namespace Cert.Attn

open Idealize.ShloMosaic

/-- The scale is a real number. -/
theorem scale_real : ∃ s : ℝ, scale = (s : EReal) := by
  unfold scale
  simp [Ideal.ofBits, Ideal.ieee, -EReal.coe_mul]

/-- The score of rows `r` and `m` under head `a`, as a real number. -/
def logit (x : Fin 2560 → Fin 128 → ℝ) (wq wk : Fin 128 → Fin 768 → ℝ) (s : ℝ) (a : Fin 6) (r m : Fin 2560) : ℝ :=
  ∑ k, (∑ i, x r i * ∑ c, (wq i (headCol a c) * s) * wk k (headCol a c)) * x m k

/-- What the key bias adds to every score of row `r`. -/
def shift (x : Fin 2560 → Fin 128 → ℝ) (wq : Fin 128 → Fin 768 → ℝ) (bk : Fin 768 → ℝ) (s : ℝ) (a : Fin 6) (r : Fin 2560) : ℝ :=
  (∑ c, (∑ i, x r i * wq i (headCol a c)) * bk (headCol a c)) * s

/-- Projecting first and multiplying afterwards is multiplying with the two weights' product, but for the shift of the key bias. -/
theorem score_eq (x : Fin 2560 → Fin 128 → ℝ) (wq wk : Fin 128 → Fin 768 → ℝ) (bk : Fin 768 → ℝ) (s : ℝ) (a : Fin 6) (r m : Fin 2560) :
    (∑ c, (∑ i, x r i * wq i (headCol a c)) * (∑ k, x m k * wk k (headCol a c) + bk (headCol a c))) * s
      = logit x wq wk s a r m + shift x wq bk s a r := by
  unfold logit shift
  simp only [mul_add, Finset.sum_add_distrib, add_mul]
  refine congrArg (· + _) ?_
  simp only [Finset.sum_mul, Finset.mul_sum]
  rw [Finset.sum_comm]
  refine Finset.sum_congr rfl fun k _ => ?_
  rw [Finset.sum_comm]
  refine Finset.sum_congr rfl fun i _ => Finset.sum_congr rfl fun c _ => ?_
  ring

variable (x : Fin 2560 → Fin 128 → ℝ) (wq wk : Fin 128 → Fin 768 → ℝ) (bk : Fin 768 → ℝ) (s : ℝ)

/-- An edge's score of real arguments. -/
theorem edgeScore_real (hs : scale = (s : EReal)) (e : Fin 102400) (a : Fin 6) :
    edgeScore (fun i j => ((x i j : ℝ) : EReal)) (fun i j => ((wq i j : ℝ) : EReal)) (fun i j => ((wk i j : ℝ) : EReal)) (fun _ => 0)
      (fun k => ((bk k : ℝ) : EReal)) e a = ((logit x wq wk s a (hiRow e) (wiRow e) + shift x wq bk s a (hiRow e) : ℝ) : EReal) := by
  rw [← score_eq, edgeScore, hs]
  simp only [rowsBy, times, add_zero, EReal.coe_mul, coe_sum, EReal.coe_add]

/-- A block weight of real arguments. -/
theorem blockWeight_real (hs : scale = (s : EReal)) (a : Fin 6) (r : Fin 2560) (q : Fin 80) :
    blockWeight (fun i j => ((x i j : ℝ) : EReal)) (fun i j => ((wq i j : ℝ) : EReal)) (fun i j => ((wk i j : ℝ) : EReal)) a r q
      = Ideal.exp (((logit x wq wk s a r (blockRow (blockOf r) q) : ℝ) : EReal) + mask (placeOf r) q) := by
  rw [blockWeight, logit]
  simp only [keyed, times, hs, EReal.coe_mul, coe_sum]

/-- The places of a row's own half of its block are the rows of its scene. -/
theorem blockRow_half (r : Fin 2560) (j : Fin 40) (h) :
    blockRow (blockOf r) ⟨40 * (r.val % 80 / 40) + j.val, h⟩ = mate r j :=
  Fin.ext (by simp only [blockRow, blockOf, mate]; omega)

/-- One head of one row: the kernel's masked block of eighty against the forty edges. -/
theorem head_eq (hs : scale = (s : EReal)) (V : Mat 2560 768) (M : ℝ) (r : Fin 2560) (a : Fin 6) (d : Fin 128) :
    blockHead (fun i j => ((x i j : ℝ) : EReal)) (fun i j => ((wq i j : ℝ) : EReal)) (fun i j => ((wk i j : ℝ) : EReal)) V r a d
      = edgeHead (fun i j => ((x i j : ℝ) : EReal)) (fun i j => ((wq i j : ℝ) : EReal)) (fun i j => ((wk i j : ℝ) : EReal)) (fun _ => 0)
          (fun k => ((bk k : ℝ) : EReal)) V (M : EReal) r a d := by
  have out : ∀ q : Fin 80, q.val / 40 ≠ r.val % 80 / 40 →
      blockWeight (fun i j => ((x i j : ℝ) : EReal)) (fun i j => ((wq i j : ℝ) : EReal)) (fun i j => ((wk i j : ℝ) : EReal)) a r q = 0 := by
    intro q hq
    rw [blockWeight_real x wq wk s hs, mask, if_neg (fun h => hq h.symm), EReal.add_bot, exp_bot]
  have inn : ∀ (j : Fin 40) (h),
      blockWeight (fun i j => ((x i j : ℝ) : EReal)) (fun i j => ((wq i j : ℝ) : EReal)) (fun i j => ((wk i j : ℝ) : EReal)) a r
        ⟨40 * (r.val % 80 / 40) + j.val, h⟩ = Ideal.exp ((logit x wq wk s a r (mate r j) : ℝ) : EReal) := by
    intro j h
    rw [blockWeight_real x wq wk s hs, blockRow_half, mask, if_pos (by simp only [placeOf]; omega), add_zero]
  have edge : ∀ j : Fin 40, edgeWeight (fun i j => ((x i j : ℝ) : EReal)) (fun i j => ((wq i j : ℝ) : EReal))
      (fun i j => ((wk i j : ℝ) : EReal)) (fun _ => 0) (fun k => ((bk k : ℝ) : EReal)) (M : EReal) (edgeTo r j) a
        = Ideal.exp ((logit x wq wk s a r (mate r j) + (shift x wq bk s a r - M) : ℝ) : EReal) := by
    intro j
    rw [edgeWeight, edgeScore_real x wq wk bk s hs, hiRow_edgeTo, wiRow_edgeTo, ← EReal.coe_sub, add_sub_assoc]
  rw [blockHead, edgeHead, sum_half _ ⟨r.val % 80 / 40, by omega⟩ fun q hq => ?_, sum_half _ ⟨r.val % 80 / 40, by omega⟩ out]
  · simp only [inn, edge, blockRow_half]
    exact softmax_mix _ _ _
  · rw [out q hq, zero_mul]

end Cert.Attn
end
-- ==== Proof.Scene.lean ====
/- What the precondition says of the arguments, in plain terms. -/
module

public import proofs.«01_k».proof.Defs
public import proofs.«01_k».proof.Proof.Gen.Pre_scene_inputs
public import proofs.«01_k».proof.Proof.RefTake
public import proofs.«01_k».proof.Proof.Attention

@[expose] public section

set_option maxRecDepth 16384

noncomputable section

namespace Cert.Attn

open Cert.Pre_scene_inputs Idealize.ShloMosaic

/-- The precondition read off: numbered agents, real values, dropped biases of zero, gains of one. -/
structure Scene (x0 : FVec Ideal S2560x128 .f32) (x1 : IVec S64x40 32) (x2 x4 : FVec Ideal S128x768 .f32) (x3 x5 x7 : FVec Ideal S768 .f32)
    (x9 x12 x13 : FVec Ideal S128 .f32) : Prop where
  numbered : Numbered x1
  agents : ∀ i j, ∃ t : ℝ, x0 (ix2 i j) = (t : EReal)
  wq : ∀ i j, ∃ t : ℝ, x2 (ix2 i j) = (t : EReal)
  bq : ∀ j, x3 (ix1 j) = 0
  wk : ∀ i j, ∃ t : ℝ, x4 (ix2 i j) = (t : EReal)
  bk : ∀ j, ∃ t : ℝ, x5 (ix1 j) = (t : EReal)
  bv : ∀ j, x7 (ix1 j) = 0
  bo1 : ∀ j, x9 (ix1 j) = 0
  gamma : ∀ j, x12 (ix1 j) = 1
  beta : ∀ j, x13 (ix1 j) = 0

/-- A value whose absolute value is below infinity is real. -/
theorem real_of_abs {x : EReal} (h : max x (-x) < ⊤) : ∃ t : ℝ, x = (t : EReal) := by
  induction x with
  | bot => simp at h
  | top => simp at h
  | coe r => exact ⟨r, rfl⟩

/-- The word of infinity. -/
theorem inf_eq : Ideal.ofBits .f32 0x7F800000#32 = ⊤ := by simp [Ideal.ofBits, Ideal.ieee]

/-- A truth value of one says that it holds. -/
theorem of_bit {p : Prop} [Decidable p] (h : BitVec.ofBool (decide p) = 1#1) : p := by
  by_contra c
  rw [decide_eq_false c] at h
  exact absurd h (by decide)

/-- An array whose absolute values are below infinity is real everywhere. -/
theorem abs_read {s : Shape} (h : S_.BroadcastsInDim s (![] : Fin 0 → Fin s.rank)) (x : FVec Ideal s .f32)
    (e : cmpf .olt (Host.absf x) (broadcastInDim s ![] h (constant S_ .f32 0x7F800000#32)) = fun _ => 1#1) (i : s.Idx) :
    ∃ t : ℝ, x i = (t : EReal) := by
  have a := congrFun e i
  pointwise at a
  rw [inf_eq] at a
  exact real_of_abs (of_bit a)

/-- An array that equals a constant holds it everywhere. -/
theorem eq_read {s : Shape} (h : S_.BroadcastsInDim s (![] : Fin 0 → Fin s.rank)) (x : FVec Ideal s .f32) (b : BitVec 32)
    (e : cmpf .oeq x (broadcastInDim s ![] h (constant S_ .f32 b)) = fun _ => 1#1) (i : s.Idx) :
    x i = Ideal.ofBits .f32 b := by
  have a := congrFun e i
  pointwise at a
  exact of_bit a

/-- The agent numbers are in order. -/
theorem ids_read (x1 : IVec S64x40 32) (h : S_.BroadcastsInDim S64x40 (![] : Fin 0 → Fin S64x40.rank))
    (e : cmpi .eq x1 (addi (muli (broadcastInDim S64x40 ![] h (constantI S_ 32 40#32)) (iotaInDim S64x40 32 0)) (iotaInDim S64x40 32 1))
      = fun _ => 1#1) : Numbered x1 := by
  intro s i
  have a := congrFun e (ix2 s i)
  pointwise at a
  have b : x1 (ix2 s i) = IntOp.addi (IntOp.muli (40#32) (BitVec.ofNat 32 s.val)) (BitVec.ofNat 32 i.val) := by
    rw [WordCmp.cmpi_eq_eq] at a
    exact of_bit a
  rw [b]
  show 40#32 * BitVec.ofNat 32 s.val + BitVec.ofNat 32 i.val = _
  apply BitVec.eq_of_toNat_eq
  simp only [BitVec.toNat_add, BitVec.toNat_mul, BitVec.toNat_ofNat]
  omega

/-- The word of zero. -/
theorem zero_word : Ideal.ofBits .f32 0x00000000#32 = 0 := by simp [Ideal.ofBits, Ideal.ieee]

/-- The word of one. -/
theorem one_word : Ideal.ofBits .f32 0x3F800000#32 = 1 := by
  simp [Ideal.ofBits, Ideal.ieee, -EReal.coe_mul]
  norm_num

/-- The precondition, read off on every device. -/
theorem scene_of (m : (ℓ : Loc Cert.KernelIdeal.nD Cert.KernelIdeal.τ Cert.KernelIdeal.sig) → Buf (Elt Ideal) ℓ)
    (h : Pre_KernelIdeal_scene_inputs m) (c : Dev Cert.KernelIdeal.nD) :
    Scene (m (c.tc.loc Cert.KernelIdeal.main_arg0)) (m (c.tc.loc Cert.KernelIdeal.main_arg1)) (m (c.tc.loc Cert.KernelIdeal.main_arg2))
      (m (c.tc.loc Cert.KernelIdeal.main_arg4)) (m (c.tc.loc Cert.KernelIdeal.main_arg3)) (m (c.tc.loc Cert.KernelIdeal.main_arg5))
      (m (c.tc.loc Cert.KernelIdeal.main_arg7)) (m (c.tc.loc Cert.KernelIdeal.main_arg9)) (m (c.tc.loc Cert.KernelIdeal.main_arg12))
      (m (c.tc.loc Cert.KernelIdeal.main_arg13)) := by
  obtain ⟨e0, e1, e2, e3, e4, e5, e6, e7, e8, e9⟩ := h c
  exact
    { numbered := ids_read _ _ e0
      agents := fun i j => abs_read _ _ e1 (ix2 i j)
      wq := fun i j => abs_read _ _ e2 (ix2 i j)
      bq := fun j => (eq_read _ _ _ e3 (ix1 j)).trans zero_word
      wk := fun i j => abs_read _ _ e4 (ix2 i j)
      bk := fun j => abs_read _ _ e5 (ix1 j)
      bv := fun j => (eq_read _ _ _ e6 (ix1 j)).trans zero_word
      bo1 := fun j => (eq_read _ _ _ e7 (ix1 j)).trans zero_word
      gamma := fun j => (eq_read _ _ _ e8 (ix1 j)).trans one_word
      beta := fun j => (eq_read _ _ _ e9 (ix1 j)).trans zero_word }

end Cert.Attn
end
-- ==== Proof.Equal.lean ====
/- The kernel's composed function and the reference's give the same array under the precondition. -/
module

public import proofs.«01_k».proof.Proof.KernelRead
public import proofs.«01_k».proof.Proof.Normal
public import proofs.«01_k».proof.Proof.RefTop
public import proofs.«01_k».proof.Proof.Scene

@[expose] public section

set_option maxRecDepth 16384

noncomputable section

namespace Cert.Attn

open Cert.ReferenceIdeal Cert.ReferenceIdeal.Gen Cert.ReferenceIdeal.Read Idealize.ShloMosaic

variable (x0 : FVec Ideal S2560x128 .f32) (x1 : IVec S64x40 32) (x2 x4 x6 : FVec Ideal S128x768 .f32) (x3 x5 x7 : FVec Ideal S768 .f32)
  (x8 : FVec Ideal S768x128 .f32) (x9 x12 x13 : FVec Ideal S128 .f32) (x10 x11 x14 : FVec Ideal S128x128 .f32)

/-- Reading the values through a bias of zeros is reading them plainly. -/
theorem values_eq (h : ∀ j, x7 (ix1 j) = 0) : rowsBy (mat x0) (mat x6) (vec x7) = times (mat x0) (mat x6) := by
  funext r k
  simp only [rowsBy, vec, h, add_zero]

/-- The attention of both programs, head by head. -/
theorem heads_eq (h : Scene x0 x1 x2 x4 x3 x5 x7 x9 x12 x13) :
    blockHead (mat x0) (mat x2) (mat x4) (relu (times (mat x0) (mat x6))) = refHead x0 x1 x2 x4 x6 x3 x5 x7 := by
  choose x hx using h.agents
  choose wq hq using h.wq
  choose wk hk using h.wk
  choose bk hb using h.bk
  obtain ⟨s, hs⟩ := scale_real
  have ex : mat x0 = fun i j => ((x i j : ℝ) : EReal) := funext fun i => funext fun j => hx i j
  have eq : mat x2 = fun i j => ((wq i j : ℝ) : EReal) := funext fun i => funext fun j => hq i j
  have ek : mat x4 = fun i j => ((wk i j : ℝ) : EReal) := funext fun i => funext fun j => hk i j
  have eb : vec x5 = fun j => ((bk j : ℝ) : EReal) := funext fun j => hb j
  have e0 : vec x3 = fun _ => 0 := funext fun j => h.bq j
  obtain ⟨M, hM⟩ := top_real x0 x1 x2 x4 x3 x5 fun e a =>
    ⟨_, (v29_apply x0 x1 x2 x4 x3 x5 h.numbered e a).trans (by rw [ex, eq, ek, eb, e0]; exact edgeScore_real x wq wk bk s hs e a)⟩
  funext r a d
  unfold refHead
  rw [values_eq x0 x6 x7 h.bv, hM]
  generalize relu (times (mat x0) (mat x6)) = V
  rw [ex, eq, ek, eb, e0]
  exact head_eq x wq wk bk s hs V M r a d

/-- The two programs' arrays are equal. -/
theorem arrays_eq (h : Scene x0 x1 x2 x4 x3 x5 x7 x9 x12 x13) :
    val_main_v85 (F := Ideal) x0 x1 x2 x3 x4 x5 x6 x7 x8 x9 x10 x11 x12 x13 x14 = kernelVec x0 x2 x4 x6 x8 x10 x11 x14 := by
  funext i
  obtain ⟨r, j, rfl⟩ : ∃ (r : Fin 2560) (j : Fin 128), i = ix2 r j := ⟨i 0, i 1, by funext q; fin_cases q <;> rfl⟩
  refine (v85_apply x0 x1 x2 x4 x6 x3 x5 x7 x8 x9 x12 x13 x10 x11 x14 h.gamma h.beta r j).trans ?_
  refine Eq.trans ?_ (kernelVec_apply x0 x2 x4 x6 x8 x10 x11 x14 r j).symm
  rw [heads_eq x0 x1 x2 x4 x6 x3 x5 x7 x9 x12 x13 h, refNormed_eq]
  refine congrArg (fun Y => after (mat x0) (normedAt Y) (mat x14) r j) (funext fun r => funext fun j => ?_)
  exact v63_apply x0 x1 x2 x4 x6 x3 x5 x7 x8 x9 x10 x11 h.numbered h.bo1 r j

end Cert.Attn
end
-- ==== Proof.Algebra.lean ====
/- Both programs run, and from memories that agree on the arguments they end with equal results. -/
module

public import proofs.«01_k».proof.Proof.Equal
public import proofs.«01_k».proof.Proof.Gen.KernelIdeal.Value
public import proofs.«01_k».proof.Proof.Gen.ReferenceIdeal.Run

@[expose] public section

set_option maxRecDepth 16384

noncomputable section

namespace Cert.Attn

open Idealize.ShloMosaic Idealize.SL.Sem

/-- The kernel's run ends with the composed function of its arguments, and so does the reference's. -/
theorem algebra : algebraic_KernelIdeal_ReferenceIdeal_pre_scene_inputs := by
  intro m g m' g' hpre hagree
  refine ⟨fun c => kernelVec (m (c.tc.loc Cert.KernelIdeal.main_arg0)) (m (c.tc.loc Cert.KernelIdeal.main_arg2))
    (m (c.tc.loc Cert.KernelIdeal.main_arg4)) (m (c.tc.loc Cert.KernelIdeal.main_arg6)) (m (c.tc.loc Cert.KernelIdeal.main_arg8))
    (m (c.tc.loc Cert.KernelIdeal.main_arg10)) (m (c.tc.loc Cert.KernelIdeal.main_arg11)) (m (c.tc.loc Cert.KernelIdeal.main_arg14)),
    ?_, ?_⟩
  · exact (θ_run Cert.KernelIdeal.defs _ _).mono (fun _ h c => ⟨(h c).1.trans (array_eq m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    refine (Cert.ReferenceIdeal.Read.val_main_v85_eq (F := Ideal) (StableHlo.launchContents m' c)).trans ?_
    obtain ⟨a0, a1, a2, a3, a4, a5, a6, a7, a8, a9, a10, a11, a12, a13, a14⟩ := hagree c
    have h := scene_of m hpre c
    rw [← a0, ← a1, ← a2, ← a3, ← a4, ← a5, ← a7, ← a9, ← a12, ← a13] at h
    beta_reduce
    rw [← a0, ← a2, ← a4, ← a6, ← a8, ← a10, ← a11, ← a14]
    exact arrays_eq (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg4)) (m' (c.tc.loc Cert.ReferenceIdeal.main_arg6))
      (m' (c.tc.loc Cert.ReferenceIdeal.main_arg3)) (m' (c.tc.loc Cert.ReferenceIdeal.main_arg5)) (m' (c.tc.loc Cert.ReferenceIdeal.main_arg7))
      (m' (c.tc.loc Cert.ReferenceIdeal.main_arg8)) (m' (c.tc.loc Cert.ReferenceIdeal.main_arg9)) (m' (c.tc.loc Cert.ReferenceIdeal.main_arg12))
      (m' (c.tc.loc Cert.ReferenceIdeal.main_arg13)) (m' (c.tc.loc Cert.ReferenceIdeal.main_arg10)) (m' (c.tc.loc Cert.ReferenceIdeal.main_arg11))
      (m' (c.tc.loc Cert.ReferenceIdeal.main_arg14)) h

end Cert.Attn
end
-- ==== Proof.lean ====
/- All claims together: the kernel, its ideal program and the reference run to the end and leave their
   arguments alone; the ideal program is the kernel with its mask read as minus infinity; and the
   kernel and the reference compute the same array over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scene_inputs
public import proofs.«01_k».proof.Proof.Gen.KernelIdeal.Value
public import proofs.«01_k».proof.Proof.Gen.ReferenceIdeal.Run
public import proofs.«01_k».proof.Proof.Gen.ReferenceIdeal.Read
public import proofs.«01_k».proof.Proof.Algebra
public import Idealize.ShloMosaic.Adequacy
public import Idealize.ShloMosaic.Init

@[expose] public section

set_option maxRecDepth 16384

noncomputable section

namespace Cert.Proof

open Idealize.ShloMosaic Idealize.SL.Sem

/-- The reference runs to the end, keeps its arguments and raises no semaphore: it has none. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every claim of the certificate. -/
theorem claim : Cert.Claim :=
  ⟨Cert.Kernel.Gen.facts, Cert.KernelIdeal.Gen.facts, Cert.ReferenceIdeal.Gen.facts, Cert.Pre_scene_inputs.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "mask" .f32 0xF149F2CA#32 ⊥ rfl,
    Cert.Attn.algebra⟩

end Cert.Proof

end
